-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096x256 : Shape := ⟨2, ![4096, 256]⟩
abbrev S2x131072 : Shape := ⟨2, ![2, 131072]⟩
abbrev S131072x256 : Shape := ⟨2, ![131072, 256]⟩
abbrev S1 : Shape := ⟨1, ![1]⟩
abbrev S2x4096 : Shape := ⟨2, ![2, 4096]⟩
abbrev S256x256 : Shape := ⟨2, ![256, 256]⟩
abbrev S_ : Shape := ⟨0, ![]⟩
abbrev S1x4096 : Shape := ⟨2, ![1, 4096]⟩
abbrev S4096 : Shape := ⟨1, ![4096]⟩

class Facts : Prop where
  bcast_S_S2x131072 : S_.BroadcastsInDim S2x131072 (![] : Fin 0 → Fin S2x131072.rank)
  reducesTo_S2x131072_S_d0_1 : S2x131072.ReducesTo [0, 1] S_
  h_S_ : 0 < S_.numel
  slices_S2x4096_S1x4096_1_0 : S2x4096.Slices ![1, 0] S1x4096
  shapeCasts_S1x4096_S4096 : S1x4096.ShapeCasts S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : IVec S2x4096 32) (main_v16 : IVec S_ 1) (main_v17 : IVec S1x4096 32) : IVec S_ 1 :=
  let main_v18 : IVec S4096 32 := shapeCast S4096 main_v17 shapeCasts_S1x4096_S4096
  let main_c_5 : IVec S_ 32 := constantI S_ 32 0#32
  let main_v19 : IVec S4096 32 := broadcastInDim S4096 ![] bcast_S_S4096 main_c_5
  let main_v20 : IVec S4096 1 := cmpi .sge main_v18 main_v19
  let main_v21 : IVec S1x4096 32 := (extractStridedSlice S1x4096 ![1, 0] · slices_S2x4096_S1x4096_1_0) main_arg7
  let main_v22 : IVec S4096 32 := shapeCast S4096 main_v21 shapeCasts_S1x4096_S4096
  let main_c_6 : IVec S_ 32 := constantI S_ 32 4096#32
  let main_v23 : IVec S4096 32 := broadcastInDim S4096 ![] bcast_S_S4096 main_c_6
  let main_v24 : IVec S4096 1 := cmpi .slt main_v22 main_v23
  let main_v25 : IVec S4096 1 := andi main_v20 main_v24
  let main_c_7 : IVec S_ 1 := constantI S_ 1 1#1
  let main_v26 : IVec S_ 1 := (fun x v => Host.reduce IntOp.andi x v reducesTo_S4096_S_d0 h_S_) main_v25 main_c_7
  let main_v27 : IVec S_ 1 := andi main_v16 main_v26
  main_v27

def fn {F : FTy → Type} [FloatOps F] (main_arg0 : FVec F S4096x256 .f32) (main_arg1 : FVec F S4096x256 .f32) (main_arg2 : IVec S2x131072 32) (main_arg3 : FVec F S131072x256 .f32) (main_arg4 : FVec F S131072x256 .f32) (main_arg5 : IVec S1 32) (main_arg6 : IVec S2x4096 32) (main_arg7 : IVec S2x4096 32) (main_arg8 : FVec F S256x256 .f32) (main_arg9 : FVec F S256x256 .f32) (main_arg10 : FVec F S256x256 .f32) (main_arg11 : FVec F S256x256 .f32) (main_arg12 : FVec F S256x256 .f32) (main_arg13 : FVec F S256x256 .f32) : IVec S_ 1 :=
  let main_c : IVec S_ 32 := constantI S_ 32 0#32
  let main_v0 : IVec S2x131072 32 := broadcastInDim S2x131072 ![] bcast_S_S2x131072 main_c
  let main_v1 : IVec S2x131072 1 := cmpi .sge main_arg2 main_v0
  let main_c_0 : IVec S_ 32 := constantI S_ 32 4096#32
  let main_v2 : IVec S2x131072 32 := broadcastInDim S2x131072 ![] bcast_S_S2x131072 main_c_0
  let main_v3 : IVec S2x131072 1 := cmpi .slt main_arg2 main_v2
  let main_v4 : IVec S2x131072 1 := andi main_v1 main_v3
  let main_c_1 : IVec S_ 1 := constantI S_ 1 1#1
  let main_v5 : IVec S_ 1 := (fun x v => Host.reduce IntOp.andi x v reducesTo_S2x131072_S_d0_1 h_S_) main_v4 main_c_1
  let main_v6 : IVec S1x4096 32 := (extractStridedSlice S1x4096 ![1, 0] · slices_S2x4096_S1x4096_1_0) main_arg6
  let main_v7 : IVec S4096 32 := shapeCast S4096 main_v6 shapeCasts_S1x4096_S4096
  let main_c_2 : IVec S_ 32 := constantI S_ 32 0#32
  let main_v8 : IVec S4096 32 := broadcastInDim S4096 ![] bcast_S_S4096 main_c_2
  let main_v9 : IVec S4096 1 := cmpi .sge main_v7 main_v8
  let main_v10 : IVec S1x4096 32 := (extractStridedSlice S1x4096 ![1, 0] · slices_S2x4096_S1x4096_1_0) main_arg6
  let main_v11 : IVec S4096 32 := shapeCast S4096 main_v10 shapeCasts_S1x4096_S4096
  let main_c_3 : IVec S_ 32 := constantI S_ 32 4096#32
  let main_v12 : IVec S4096 32 := broadcastInDim S4096 ![] bcast_S_S4096 main_c_3
  let main_v13 : IVec S4096 1 := cmpi .slt main_v11 main_v12
  let main_v14 : IVec S4096 1 := andi main_v9 main_v13
  let main_c_4 : IVec S_ 1 := constantI S_ 1 1#1
  let main_v15 : IVec S_ 1 := (fun x v => Host.reduce IntOp.andi x v reducesTo_S4096_S_d0 h_S_) main_v14 main_c_4
  let main_v16 : IVec S_ 1 := andi main_v5 main_v15
  let main_v17 : IVec S1x4096 32 := (extractStridedSlice S1x4096 ![1, 0] · slices_S2x4096_S1x4096_1_0) main_arg7
  fn_part1 (F := F) main_arg7 main_v16 main_v17
-- ==== Kernel.lean ====
abbrev S4096x256 : Shape := ⟨2, ![4096, 256]⟩
abbrev S2x131072 : Shape := ⟨2, ![2, 131072]⟩
abbrev S131072x256 : Shape := ⟨2, ![131072, 256]⟩
abbrev S1 : Shape := ⟨1, ![1]⟩
abbrev S2x4096 : Shape := ⟨2, ![2, 4096]⟩
abbrev S256x256 : Shape := ⟨2, ![256, 256]⟩
abbrev S1x131072 : Shape := ⟨2, ![1, 131072]⟩
abbrev S131072 : Shape := ⟨1, ![131072]⟩
abbrev S131072x1 : Shape := ⟨2, ![131072, 1]⟩
abbrev S1x4096 : Shape := ⟨2, ![1, 4096]⟩
abbrev S4096 : Shape := ⟨1, ![4096]⟩
abbrev S4096x1 : Shape := ⟨2, ![4096, 1]⟩
abbrev S4096x1024 : Shape := ⟨2, ![4096, 1024]⟩
abbrev S4096x512 : Shape := ⟨2, ![4096, 512]⟩
abbrev S512x256 : Shape := ⟨2, ![512, 256]⟩
abbrev S512x1 : Shape := ⟨2, ![512, 1]⟩
abbrev S512x1024 : Shape := ⟨2, ![512, 1024]⟩
abbrev S512x512 : Shape := ⟨2, ![512, 512]⟩
abbrev S512x4096 : Shape := ⟨2, ![512, 4096]⟩
abbrev S4096x128 : Shape := ⟨2, ![4096, 128]⟩
abbrev S131072x4 : Shape := ⟨2, ![131072, 4]⟩
abbrev S512x4 : Shape := ⟨2, ![512, 4]⟩
abbrev S512 : Shape := ⟨1, ![512]⟩
abbrev S512x126 : Shape := ⟨2, ![512, 126]⟩
abbrev S512x128 : Shape := ⟨2, ![512, 128]⟩

abbrev nBuf : Space → Nat
  | .hbm => 41
  | .vmem => 60
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S2x131072, .i32⟩
  | .hbm, ⟨3, _⟩ => ⟨S131072x256, .f32⟩
  | .hbm, ⟨4, _⟩ => ⟨S131072x256, .f32⟩
  | .hbm, ⟨5, _⟩ => ⟨S1, .i32⟩
  | .hbm, ⟨6, _⟩ => ⟨S2x4096, .i32⟩
  | .hbm, ⟨7, _⟩ => ⟨S2x4096, .i32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S1x131072, .i32⟩
  | .hbm, ⟨15, _⟩ => ⟨S131072, .i32⟩
  | .hbm, ⟨16, _⟩ => ⟨S131072x1, .i32⟩
  | .hbm, ⟨17, _⟩ => ⟨S1x131072, .i32⟩
  | .hbm, ⟨18, _⟩ => ⟨S131072, .i32⟩
  | .hbm, ⟨19, _⟩ => ⟨S131072x1, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S1x4096, .i32⟩
  | .hbm, ⟨24, _⟩ => ⟨S4096, .i32⟩
  | .hbm, ⟨25, _⟩ => ⟨S4096x1, .i32⟩
  | .hbm, ⟨26, _⟩ => ⟨S4096x1024, .f32⟩
  | .hbm, ⟨27, _⟩ => ⟨S4096x512, .f32⟩
  | .hbm, ⟨28, _⟩ => ⟨S4096x128, .f32⟩
  | .hbm, ⟨29, _⟩ => ⟨S4096x128, .f32⟩
  | .hbm, ⟨30, _⟩ => ⟨S131072x4, .f32⟩
  | .hbm, ⟨31, _⟩ => ⟨S131072x256, .f32⟩
  | .hbm, ⟨32, _⟩ => ⟨S131072x256, .f32⟩
  | .hbm, ⟨33, _⟩ => ⟨S131072x256, .f32⟩
  | .hbm, ⟨34, _⟩ => ⟨S131072x256, .f32⟩
  | .hbm, ⟨35, _⟩ => ⟨S4096x512, .f32⟩
  | .hbm, ⟨36, _⟩ => ⟨S4096x512, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S4096x256, .f32⟩
  | .local _ .vmem, ⟨5, _⟩ => ⟨S4096x256, .f32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x1, .i32⟩
  | .local _ .vmem, ⟨21, _⟩ => ⟨S512x1, .i32⟩
  | .local _ .vmem, ⟨22, _⟩ => ⟨S512x1, .i32⟩
  | .local _ .vmem, ⟨23, _⟩ => ⟨S512x1, .i32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S4096x1024, .f32⟩
  | .local _ .vmem, ⟨29, _⟩ => ⟨S4096x512, .f32⟩
  | .local _ .vmem, ⟨30, _⟩ => ⟨S4096x128, .f32⟩
  | .local _ .vmem, ⟨31, _⟩ => ⟨S4096x128, .f32⟩
  | .local _ .vmem, ⟨32, _⟩ => ⟨S512x4, .f32⟩
  | .local _ .vmem, ⟨33, _⟩ => ⟨S512x4, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S512x256, .f32⟩
  | .local _ .vmem, ⟨41, _⟩ => ⟨S512x256, .f32⟩
  | .local _ .vmem, ⟨42, _⟩ => ⟨S512x1, .i32⟩
  | .local _ .vmem, ⟨43, _⟩ => ⟨S512x1, .i32⟩
  | .local _ .vmem, ⟨44, _⟩ => ⟨S512x1, .i32⟩
  | .local _ .vmem, ⟨45, _⟩ => ⟨S512x1, .i32⟩
  | .local _ .vmem, ⟨46, _⟩ => ⟨S512x4, .f32⟩
  | .local _ .vmem, ⟨47, _⟩ => ⟨S512x4, .f32⟩
  | .local _ .vmem, ⟨48, _⟩ => ⟨S512x256, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S4096x128, .f32⟩
  | .local _ .vmem, ⟨57, _⟩ => ⟨S4096x128, .f32⟩
  | .local _ .vmem, ⟨58, _⟩ => ⟨S4096x512, .f32⟩
  | .local _ .vmem, ⟨59, _⟩ => ⟨S4096x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev main_v13_5 : Ref sig .tc := ⟨.hbm, 33, rfl⟩
abbrev main_v13_6 : Ref sig .tc := ⟨.hbm, 34, rfl⟩
abbrev main_v14_0 : Ref sig .tc := ⟨.hbm, 35, rfl⟩
abbrev main_v14_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg4_1 : Ref sig .tc := ⟨.vmem, 51, rfl⟩
abbrev cc2_stg5_0 : Ref sig .tc := ⟨.vmem, 52, rfl⟩
abbrev cc2_stg5_1 : Ref sig .tc := ⟨.vmem, 53, rfl⟩
abbrev cc2_stg6_0 : Ref sig .tc := ⟨.vmem, 54, rfl⟩
abbrev cc2_stg6_1 : Ref sig .tc := ⟨.vmem, 55, rfl⟩
abbrev cc2_stg7_0 : Ref sig .tc := ⟨.vmem, 56, rfl⟩
abbrev cc2_stg8_0 : Ref sig .tc := ⟨.vmem, 57, rfl⟩
abbrev cc2_stg9_0 : Ref sig .tc := ⟨.vmem, 58, rfl⟩
abbrev cc2_stg10_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem4_1 : DmaSem sig := 51
abbrev cc2_sem5_0 : DmaSem sig := 52
abbrev cc2_sem5_1 : DmaSem sig := 53
abbrev cc2_sem6_0 : DmaSem sig := 54
abbrev cc2_sem6_1 : DmaSem sig := 55
abbrev cc2_sem7_0 : DmaSem sig := 56
abbrev cc2_sem8_0 : DmaSem sig := 57
abbrev cc2_sem9_0 : DmaSem sig := 58
abbrev cc2_sem10_0 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S4096x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S4096x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S4096x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S4096x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== ReferenceIdeal.lean ====
abbrev S4096x256 : Shape := ⟨2, ![4096, 256]⟩
abbrev S2x131072 : Shape := ⟨2, ![2, 131072]⟩
abbrev S131072x256 : Shape := ⟨2, ![131072, 256]⟩
abbrev S1 : Shape := ⟨1, ![1]⟩
abbrev S2x4096 : Shape := ⟨2, ![2, 4096]⟩
abbrev S256x256 : Shape := ⟨2, ![256, 256]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S4096 : Shape := ⟨1, ![4096]⟩
abbrev S1x4096 : Shape := ⟨2, ![1, 4096]⟩
abbrev S4096x1 : Shape := ⟨2, ![4096, 1]⟩

abbrev nBuf : Space → Nat
  | .hbm => 297
  | .vmem => 0
  | .smem => 0
  | _ => 0

abbrev hbmTy0_0 (i : Nat) : BufTy := match i % 128 with
  | 0 => ⟨S4096x256, .f32⟩
  | 1 => ⟨S4096x256, .f32⟩
  | 2 => ⟨S2x131072, .i32⟩
  | 3 => ⟨S131072x256, .f32⟩
  | 4 => ⟨S131072x256, .f32⟩
  | 5 => ⟨S1, .i32⟩
  | 6 => ⟨S2x4096, .i32⟩
  | 7 => ⟨S2x4096, .i32⟩
  | 8 => ⟨S256x256, .f32⟩
  | 9 => ⟨S256x256, .f32⟩
  | 10 => ⟨S256x256, .f32⟩
  | 11 => ⟨S256x256, .f32⟩
  | 12 => ⟨S256x256, .f32⟩
  | 13 => ⟨S256x256, .f32⟩
  | 14 => ⟨S1x131072, .i32⟩
  | 15 => ⟨S131072, .i32⟩
  | 16 => ⟨S1x131072, .i32⟩
  | 17 => ⟨S131072, .i32⟩
  | 18 => ⟨S256x256, .f32⟩
  | 19 => ⟨S4096x256, .f32⟩
  | 20 => ⟨S256x256, .f32⟩
  | 21 => ⟨S4096x256, .f32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x256, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x256, .f32⟩
  | 40 => ⟨S131072x256, .f32⟩
  | 41 => ⟨S_, .f32⟩
  | 42 => ⟨S131072, .f32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S131072x1, .i32⟩
  | 51 => ⟨S131072x256, .f32⟩
  | 52 => ⟨S131072x256, .f32⟩
  | 53 => ⟨S_, .f32⟩
  | 54 => ⟨S131072, .f32⟩
  | 55 => ⟨S131072, .f32⟩
  | 56 => ⟨S_, .f32⟩
  | 57 => ⟨S131072, .f32⟩
  | 58 => ⟨S131072, .f32⟩
  | 59 => ⟨S131072, .f32⟩
  | 60 => ⟨S_, .f32⟩
  | 61 => ⟨S4096, .f32⟩
  | 62 => ⟨S131072x1, .i32⟩
  | 63 => ⟨S4096, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S131072, .f32⟩
  | 73 => ⟨S_, .f32⟩
  | 74 => ⟨S131072, .f32⟩
  | 75 => ⟨S131072, .f32⟩
  | 76 => ⟨S131072, .f32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S131072x256, .f32⟩
  | 86 => ⟨S131072x256, .f32⟩
  | 87 => ⟨S_, .f32⟩
  | 88 => ⟨S131072, .f32⟩
  | 89 => ⟨S131072, .f32⟩
  | 90 => ⟨S_, .f32⟩
  | 91 => ⟨S131072, .f32⟩
  | 92 => ⟨S131072, .f32⟩
  | 93 => ⟨S131072, .f32⟩
  | 94 => ⟨S_, .f32⟩
  | 95 => ⟨S4096, .f32⟩
  | 96 => ⟨S131072x1, .i32⟩
  | 97 => ⟨S4096, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072, .f32⟩
  | 107 => ⟨S_, .f32⟩
  | 108 => ⟨S131072, .f32⟩
  | 109 => ⟨S131072, .f32⟩
  | 110 => ⟨S131072, .f32⟩
  | 111 => ⟨S256x256, .f32⟩
  | 112 => ⟨S4096x256, .f32⟩
  | 113 => ⟨S256x256, .f32⟩
  | 114 => ⟨S4096x256, .f32⟩
  | 115 => ⟨S131072x1, .f32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S131072x1, .i32⟩
  | 124 => ⟨S131072x256, .f32⟩
  | 125 => ⟨S131072x256, .f32⟩
  | 126 => ⟨S131072x256, .f32⟩
  | 127 => ⟨S131072x256, .f32⟩
  | _ => ⟨S4096x256, .f32⟩

abbrev hbmTy0_1 (i : Nat) : BufTy := match i % 128 with
  | 0 => ⟨S_, .f32⟩
  | 1 => ⟨S4096x256, .f32⟩
  | 2 => ⟨S131072x1, .i32⟩
  | 3 => ⟨S4096x256, .f32⟩
  | 4 => ⟨S131072x1, .f32⟩
  | 5 => ⟨S_, .i32⟩
  | 6 => ⟨S131072, .i32⟩
  | 7 => ⟨S131072, .i1⟩
  | 8 => ⟨S_, .i32⟩
  | 9 => ⟨S131072, .i32⟩
  | 10 => ⟨S131072, .i32⟩
  | 11 => ⟨S131072, .i32⟩
  | 12 => ⟨S131072x1, .i32⟩
  | 13 => ⟨S131072x256, .f32⟩
  | 14 => ⟨S131072x256, .f32⟩
  | 15 => ⟨S131072x256, .f32⟩
  | 16 => ⟨S131072x256, .f32⟩
  | 17 => ⟨S_, .f32⟩
  | 18 => ⟨S4096x256, .f32⟩
  | 19 => ⟨S131072x1, .i32⟩
  | 20 => ⟨S4096x256, .f32⟩
  | 21 => ⟨S1x4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x256, .f32⟩
  | 32 => ⟨S256x256, .f32⟩
  | 33 => ⟨S4096x256, .f32⟩
  | 34 => ⟨S1x4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x256, .f32⟩
  | 45 => ⟨S256x256, .f32⟩
  | 46 => ⟨S4096x256, .f32⟩
  | 47 => ⟨S_, .i32⟩
  | 48 => ⟨S131072, .i32⟩
  | 49 => ⟨S131072, .i1⟩
  | 50 => ⟨S_, .i32⟩
  | 51 => ⟨S131072, .i32⟩
  | 52 => ⟨S131072, .i32⟩
  | 53 => ⟨S131072, .i32⟩
  | 54 => ⟨S131072x1, .i32⟩
  | 55 => ⟨S131072x256, .f32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x256, .f32⟩
  | 65 => ⟨S131072x256, .f32⟩
  | 66 => ⟨S_, .f32⟩
  | 67 => ⟨S131072, .f32⟩
  | 68 => ⟨S_, .f32⟩
  | 69 => ⟨S131072, .f32⟩
  | 70 => ⟨S131072, .f32⟩
  | 71 => ⟨S131072, .f32⟩
  | 72 => ⟨S_, .f32⟩
  | 73 => ⟨S4096, .f32⟩
  | 74 => ⟨S131072x1, .i32⟩
  | 75 => ⟨S4096, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072, .f32⟩
  | 85 => ⟨S_, .f32⟩
  | 86 => ⟨S131072, .f32⟩
  | 87 => ⟨S131072, .f32⟩
  | 88 => ⟨S131072, .f32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x256, .f32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072x256, .f32⟩
  | 107 => ⟨S131072x256, .f32⟩
  | 108 => ⟨S_, .f32⟩
  | 109 => ⟨S131072, .f32⟩
  | 110 => ⟨S_, .f32⟩
  | 111 => ⟨S131072, .f32⟩
  | 112 => ⟨S131072, .f32⟩
  | 113 => ⟨S131072, .f32⟩
  | 114 => ⟨S_, .f32⟩
  | 115 => ⟨S4096, .f32⟩
  | 116 => ⟨S131072x1, .i32⟩
  | 117 => ⟨S4096, .f32⟩
  | 118 => ⟨S_, .i32⟩
  | 119 => ⟨S131072, .i32⟩
  | 120 => ⟨S131072, .i1⟩
  | 121 => ⟨S_, .i32⟩
  | 122 => ⟨S131072, .i32⟩
  | 123 => ⟨S131072, .i32⟩
  | 124 => ⟨S131072, .i32⟩
  | 125 => ⟨S131072x1, .i32⟩
  | 126 => ⟨S131072, .f32⟩
  | 127 => ⟨S_, .f32⟩
  | _ => ⟨S4096x256, .f32⟩

abbrev hbmTy0_2 (i : Nat) : BufTy := match i % 128 with
  | 0 => ⟨S131072, .f32⟩
  | 1 => ⟨S131072, .f32⟩
  | 2 => ⟨S131072, .f32⟩
  | 3 => ⟨S131072x1, .f32⟩
  | 4 => ⟨S_, .i32⟩
  | 5 => ⟨S131072, .i32⟩
  | 6 => ⟨S131072, .i1⟩
  | 7 => ⟨S_, .i32⟩
  | 8 => ⟨S131072, .i32⟩
  | 9 => ⟨S131072, .i32⟩
  | 10 => ⟨S131072, .i32⟩
  | 11 => ⟨S131072x1, .i32⟩
  | 12 => ⟨S131072x256, .f32⟩
  | 13 => ⟨S_, .f32⟩
  | 14 => ⟨S131072x256, .f32⟩
  | 15 => ⟨S131072x256, .f32⟩
  | 16 => ⟨S131072x256, .f32⟩
  | 17 => ⟨S131072x256, .f32⟩
  | 18 => ⟨S_, .f32⟩
  | 19 => ⟨S4096x256, .f32⟩
  | 20 => ⟨S131072x1, .i32⟩
  | 21 => ⟨S4096x256, .f32⟩
  | 22 => ⟨S131072x1, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S131072x256, .f32⟩
  | 32 => ⟨S_, .f32⟩
  | 33 => ⟨S131072x256, .f32⟩
  | 34 => ⟨S131072x256, .f32⟩
  | 35 => ⟨S131072x256, .f32⟩
  | 36 => ⟨S131072x256, .f32⟩
  | 37 => ⟨S_, .f32⟩
  | 38 => ⟨S4096x256, .f32⟩
  | 39 => ⟨S131072x1, .i32⟩
  | 40 => ⟨S4096x256, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_22 : Ref sig .tc := ⟨.hbm, 133, rfl⟩
abbrev main_v95 : Ref sig .tc := ⟨.hbm, 134, rfl⟩
abbrev main_v96 : Ref sig .tc := ⟨.hbm, 135, rfl⟩
abbrev main_c_23 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_24 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_27 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_29 : Ref sig .tc := ⟨.hbm, 175, rfl⟩
abbrev main_v130 : Ref sig .tc := ⟨.hbm, 176, rfl⟩
abbrev main_v131 : Ref sig .tc := ⟨.hbm, 177, rfl⟩
abbrev main_c_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_31 : Ref sig .tc := ⟨.hbm, 184, rfl⟩
abbrev main_v137 : Ref sig .tc := ⟨.hbm, 185, rfl⟩
abbrev main_v138 : Ref sig .tc := ⟨.hbm, 186, rfl⟩
abbrev main_c_32 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_33 : Ref sig .tc := ⟨.hbm, 194, rfl⟩
abbrev main_v145 : Ref sig .tc := ⟨.hbm, 195, rfl⟩
abbrev main_cst_34 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_35 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_36 : Ref sig .tc := ⟨.hbm, 204, rfl⟩
abbrev main_v152 : Ref sig .tc := ⟨.hbm, 205, rfl⟩
abbrev main_v153 : Ref sig .tc := ⟨.hbm, 206, rfl⟩
abbrev main_c_37 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_38 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_39 : Ref sig .tc := ⟨.hbm, 217, rfl⟩
abbrev main_v162 : Ref sig .tc := ⟨.hbm, 218, rfl⟩
abbrev main_v163 : Ref sig .tc := ⟨.hbm, 219, rfl⟩
abbrev main_c_40 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_c_41 : Ref sig .tc := ⟨.hbm, 226, rfl⟩
abbrev main_v169 : Ref sig .tc := ⟨.hbm, 227, rfl⟩
abbrev main_v170 : Ref sig .tc := ⟨.hbm, 228, rfl⟩
abbrev main_c_42 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_43 : Ref sig .tc := ⟨.hbm, 236, rfl⟩
abbrev main_v177 : Ref sig .tc := ⟨.hbm, 237, rfl⟩
abbrev main_cst_44 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_45 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_46 : Ref sig .tc := ⟨.hbm, 246, rfl⟩
abbrev main_v184 : Ref sig .tc := ⟨.hbm, 247, rfl⟩
abbrev main_v185 : Ref sig .tc := ⟨.hbm, 248, rfl⟩
abbrev main_c_47 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_cst_48 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_c_49 : Ref sig .tc := ⟨.hbm, 260, rfl⟩
abbrev main_v195 : Ref sig .tc := ⟨.hbm, 261, rfl⟩
abbrev main_v196 : Ref sig .tc := ⟨.hbm, 262, rfl⟩
abbrev main_c_50 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_cst_51 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_cst_52 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_c_53 : Ref sig .tc := ⟨.hbm, 279, rfl⟩
abbrev main_v210 : Ref sig .tc := ⟨.hbm, 280, rfl⟩
abbrev main_v211 : Ref sig .tc := ⟨.hbm, 281, rfl⟩
abbrev main_c_54 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_cst_55 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_cst_56 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

set_option maxRecDepth 16384

noncomputable section

namespace Cert.KernelIdeal.Gat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run ends with each result array at the contents `W5` gives it and every argument as launched. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_v16) = W5 m ρ c (Proc.devRef .tc main_v16)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v15 (by decide)),
       h c _ (mem_uc main_v16 (by decide)),
       h c _ (mem_uc main_v17 (by decide)),
       h c _ (mem_uc main_v18 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.KernelIdeal.Gat
end
-- ==== Proof.Spec.lean ====
module

public import Idealize.ShloMosaic.Lib.Pointwise

/-! The function both programs compute, over `EReal`: attention scores per edge, their sums per node, and the
    weighted sums of rows per node. No program appears here. -/

@[expose] public section

noncomputable section

namespace Cert.Gat

open Idealize.ShloMosaic

/-- A matrix of extended reals. -/
abbrev Mat (a b : Nat) : Type := (⟨2, ![a, b]⟩ : Shape).Idx → EReal

/-- The literal the scores are divided by. -/
abbrev scale : EReal := Ideal.ofBits .f32 0x41800000#32
/-- The literal added to a node's sum before the division. -/
abbrev guard : EReal := Ideal.ofBits .f32 0x24E69595#32
/-- The literal added to a gathered row in the two short-term sums, as a program writes it. -/
abbrev unit : EReal := Ideal.ofBits .f32 0x3F800000#32

/-- The inputs, with the index arrays already read as node numbers. -/
structure Inp where
  /-- user rows -/
  U : Mat 4096 256
  /-- item rows -/
  I : Mat 4096 256
  pV : Mat 131072 256
  pK : Mat 131072 256
  W1 : Mat 256 256
  W2 : Mat 256 256
  W1b : Mat 256 256
  W2b : Mat 256 256
  W3 : Mat 256 256
  W4 : Mat 256 256
  /-- the user of an edge -/
  us : Fin 131072 → Fin 4096
  /-- the item of an edge -/
  is : Fin 131072 → Fin 4096
  /-- the last item of a user -/
  lu : Fin 4096 → Fin 4096
  /-- the last user of an item -/
  li : Fin 4096 → Fin 4096

/-- Entry `(r, d)` of `X` times the transpose of `W`. -/
def att (X : Mat 4096 256) (W : Mat 256 256) (r : Fin 4096) (d : Fin 256) : EReal :=
  ∑ k : Fin 256, X (ix2 r k) * W (ix2 d k)

/-- Sum of a product of two rows. -/
def dotRow (f g : Fin 256 → EReal) : EReal := ∑ d : Fin 256, f d * g d

/-- The sum of `w` over the edges whose end is `n`. -/
def segSum (s : Fin 131072 → Fin 4096) (w : Fin 131072 → EReal) (n : Fin 4096) : EReal :=
  ∑ e : Fin 131072, if s e = n then w e else 0

/-- The weight of an edge among the edges that share its end. -/
def weight (s : Fin 131072 → Fin 4096) (ex : Fin 131072 → EReal) (e : Fin 131072) : EReal :=
  Ideal.div (ex e) (segSum s ex (s e) + guard)

namespace Inp

variable (x : Inp)

def rowA (e : Fin 131072) (d : Fin 256) : EReal := att x.U x.W2 (x.us e) d
def rowUm (e : Fin 131072) (d : Fin 256) : EReal := att x.U x.W2b (x.us e) d
def rowLi (e : Fin 131072) (d : Fin 256) : EReal := att x.I x.W3 (x.lu (x.us e)) d
def rowLu (e : Fin 131072) (d : Fin 256) : EReal := att x.U x.W4 (x.li (x.us e)) d
def rowB (e : Fin 131072) (d : Fin 256) : EReal := att x.I x.W1 (x.is e) d
def rowIm (e : Fin 131072) (d : Fin 256) : EReal := att x.I x.W1b (x.is e) d

/-- The four exponentials of an edge. -/
def ex1 (e : Fin 131072) : EReal :=
  Ideal.exp (Ideal.div (dotRow (x.rowA e) (x.rowB e) + dotRow (x.rowA e) (fun d => x.pV (ix2 e d))) scale)
def ex2 (e : Fin 131072) : EReal :=
  Ideal.exp (Ideal.div (dotRow (x.rowA e) (x.rowB e) + dotRow (x.rowB e) (fun d => x.pK (ix2 e d))) scale)
def ex3 (e : Fin 131072) : EReal := Ideal.exp (Ideal.div (dotRow (x.rowLi e) (x.rowB e)) scale)
def ex4 (e : Fin 131072) : EReal := Ideal.exp (Ideal.div (dotRow (x.rowLu e) (x.rowB e)) scale)

/-- The four rows an edge contributes. -/
def g1 (e : Fin 131072) (d : Fin 256) : EReal := x.rowIm e d + x.pK (ix2 e d)
def g2 (e : Fin 131072) (d : Fin 256) : EReal := x.rowB e d + unit
def g3 (e : Fin 131072) (d : Fin 256) : EReal := x.rowUm e d + x.pV (ix2 e d)
def g4 (e : Fin 131072) (d : Fin 256) : EReal := x.rowA e d + unit

/-- The four results at an entry. -/
def hLu (n : Fin 4096) (d : Fin 256) : EReal := segSum x.us (fun e => weight x.us x.ex1 e * x.g1 e d) n
def hSu (n : Fin 4096) (d : Fin 256) : EReal := segSum x.us (fun e => weight x.us x.ex3 e * x.g2 e d) n
def hLi (n : Fin 4096) (d : Fin 256) : EReal := segSum x.is (fun e => weight x.is x.ex2 e * x.g3 e d) n
def hSi (n : Fin 4096) (d : Fin 256) : EReal := segSum x.is (fun e => weight x.is x.ex4 e * x.g4 e d) n

end Inp

/-- A sum over blocks of 512 edges is a sum over the edges. -/
theorem sum_blocks (f : Fin 131072 → EReal) :
    (∑ t : Fin 256, ∑ k : Fin 512, f ⟨512 * t.val + k.val, by omega⟩) = ∑ e : Fin 131072, f e := by
  rw [← Fintype.sum_prod_type' fun (t : Fin 256) (k : Fin 512) => f ⟨512 * t.val + k.val, by omega⟩]
  refine Fintype.sum_equiv (finProdFinEquiv.trans (finCongr (by norm_num))) _ _ fun p => congrArg f (Fin.ext ?_)
  simp [finProdFinEquiv, add_comm]

/-- A node's sum, block by block. -/
theorem segSum_blocks (s : Fin 131072 → Fin 4096) (w : Fin 131072 → EReal) (n : Fin 4096) :
    (∑ t : Fin 256, ∑ k : Fin 512, if s ⟨512 * t.val + k.val, by omega⟩ = n then w ⟨512 * t.val + k.val, by omega⟩ else 0)
      = segSum s w n :=
  sum_blocks fun e => if s e = n then w e else 0

/-- A one-hot column times a block of values adds the values of the block's edges that end at `n`. -/
theorem sum_onehot_col {K : Nat} (s : Fin K → Fin 4096) (P w w' : Fin K → EReal) (n : Fin 4096)
    (hP : ∀ k, P k = if s k = n then (1 : EReal) else 0) (hw : ∀ k, w k = w' k) :
    (∑ k : Fin K, P k * w k) = ∑ k : Fin K, if s k = n then w' k else 0 :=
  Finset.sum_congr rfl fun k _ => by rw [hP, hw]; by_cases h : s k = n <;> simp [h]

/-- A one-hot row times a column picks the column's entry. -/
theorem sum_onehot {n : Nat} (a : Fin n) (f : Fin n → EReal) :
    (∑ x : Fin n, (if a = x then 1 else 0) * f x) = f a := by
  simp [ite_mul]

/-- A word one-hot: the comparison of two small numbers, widened and read as a number. -/
theorem onehot_word (a b : Fin 4096) :
    FloatOps.sitofp (F := Ideal) .f32 (BitVec.setWidth 32 (IntOp.cmpi .eq (BitVec.ofNat 32 a.val) (BitVec.ofNat 32 b.val)))
      = if a = b then (1 : EReal) else 0 := by
  have ha := a.isLt
  have hb := b.isLt
  have hab : (BitVec.ofNat 32 a.val = BitVec.ofNat 32 b.val) ↔ a = b := by
    constructor
    · intro h
      have := congrArg BitVec.toNat h
      simp only [BitVec.toNat_ofNat] at this
      rw [Nat.mod_eq_of_lt (by omega), Nat.mod_eq_of_lt (by omega)] at this
      exact Fin.ext this
    · rintro rfl; rfl
  show (((BitVec.setWidth 32 (IntOp.cmpi .eq (BitVec.ofNat 32 a.val) (BitVec.ofNat 32 b.val))).toInt : ℝ) : EReal) = _
  by_cases h : a = b
  · rw [if_pos h, h]; simp [IntOp.cmpi]
  · rw [if_neg h]
    have hne : (BitVec.ofNat 32 a.val == BitVec.ofNat 32 b.val) = false := beq_eq_false_iff_ne.2 fun e => h (hab.1 e)
    simp [IntOp.cmpi, hne]

end Cert.Gat
end
-- ==== Proof.Pay0.lean ====
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Gat

open Idealize.ShloMosaic Cert.KernelIdeal Cert.KernelIdeal.Gen Cert.Gat

/-! One block of the prologue, each value at an index. -/

/-- A block of rows times a transposed weight. -/
theorem pay0_att2 (v0 : Vec Ideal S512x256 .f32) (v1 : Vec Ideal S256x256 .f32) (r : Fin 512) (d : Fin 256) :
    k0_pay3 (F := Ideal) v0 v1 (ix2 r d) = dotRow (fun k => v0 (ix2 r k)) (fun k => v1 (ix2 d k)) := by
  pointwise [k0_pay3]
  rfl

theorem pay0_att2b (v0 : Vec Ideal S512x256 .f32) (v1 : Vec Ideal S256x256 .f32) (r : Fin 512) (d : Fin 256) :
    k0_pay4 (F := Ideal) v0 v1 (ix2 r d) = dotRow (fun k => v0 (ix2 r k)) (fun k => v1 (ix2 d k)) := by
  pointwise [k0_pay4]
  rfl

theorem pay0_att1 (v0 : Vec Ideal S512x256 .f32) (v1 : Vec Ideal S256x256 .f32) (r : Fin 512) (d : Fin 256) :
    k0_pay5 (F := Ideal) v0 v1 (ix2 r d) = dotRow (fun k => v0 (ix2 r k)) (fun k => v1 (ix2 d k)) := by
  pointwise [k0_pay5]
  rfl

theorem pay0_att1b (v0 : Vec Ideal S512x256 .f32) (v1 : Vec Ideal S256x256 .f32) (r : Fin 512) (d : Fin 256) :
    k0_pay6 (F := Ideal) v0 v1 (ix2 r d) = dotRow (fun k => v0 (ix2 r k)) (fun k => v1 (ix2 d k)) := by
  pointwise [k0_pay6]
  rfl

/-- The one-hot gather of the item table at the last items, times a transposed weight. -/
theorem pay0_li (v12 : Vec Ideal S512x1 .i32) (v19 : Vec Ideal S4096x256 .f32) (v21 : Vec Ideal S256x256 .f32)
    (a : Fin 512 → Fin 4096) (ha : ∀ k, v12 (ix2 k 0) = BitVec.ofNat 32 (a k).val) (r : Fin 512) (d : Fin 256) :
    k0_pay7 (F := Ideal) v12 v19 v21 (ix2 r d) = att v19 v21 (a r) d := by
  pointwise [k0_pay7]
  simp only [ha, onehot_word]
  exact Finset.sum_congr rfl fun k _ => congrArg (· * v21 (ix2 d k)) (sum_onehot (a r) fun x => v19 (ix2 x k))

theorem pay0_cati0 (v8 v11 : Vec Ideal S512x256 .f32) (r : Fin 512) (d : Fin 256) :
    k0_pay2 (F := Ideal) v8 v11 (ix2 r ⟨d.val, by omega⟩) = v8 (ix2 r d) := by
  have h : d.val < 256 := d.isLt
  pointwise [k0_pay2]

theorem pay0_cati1 (v8 v11 : Vec Ideal S512x256 .f32) (r : Fin 512) (d : Fin 256) :
    k0_pay2 (F := Ideal) v8 v11 (ix2 r ⟨256 + d.val, by omega⟩) = v11 (ix2 r d) := by
  have h : ¬ 256 + d.val < 256 := by omega
  pointwise [k0_pay2]

section
variable (v2 v5 v22 : Vec Ideal S512x256 .f32) (v23 : Vec Ideal S512x1 .i32) (v30 : Vec Ideal S4096x256 .f32)
  (v32 : Vec Ideal S256x256 .f32) (r : Fin 512) (d : Fin 256)

theorem pay0_catu0 :
    k0_pay1 (F := Ideal) v2 v5 v22 (k0_pay8 (F := Ideal) v23) v30 v32 (ix2 r ⟨d.val, by omega⟩) = v2 (ix2 r d) := by
  have h : d.val < 256 := d.isLt
  pointwise [k0_pay1]

theorem pay0_catu1 :
    k0_pay1 (F := Ideal) v2 v5 v22 (k0_pay8 (F := Ideal) v23) v30 v32 (ix2 r ⟨256 + d.val, by omega⟩) = v5 (ix2 r d) := by
  have h : d.val < 256 := d.isLt
  have h0 : ¬ 256 + d.val < 256 := by omega
  pointwise [k0_pay1]

theorem pay0_catu2 :
    k0_pay1 (F := Ideal) v2 v5 v22 (k0_pay8 (F := Ideal) v23) v30 v32 (ix2 r ⟨512 + d.val, by omega⟩) = v22 (ix2 r d) := by
  have h : d.val < 256 := d.isLt
  have h0 : ¬ 512 + d.val < 256 := by omega
  have h1 : ¬ 512 + d.val - 256 < 256 := by omega
  have h2 : 512 + d.val - 256 - 256 = d.val := by omega
  pointwise [k0_pay1]
  simp only [h0, h1, h2, dif_neg, not_false_eq_true, h, dif_pos]

/-- The last group of columns: the one-hot gather of the user table at the last users, times a transposed weight. -/
theorem pay0_catu3 (a : Fin 512 → Fin 4096) (ha : ∀ k, v23 (ix2 k 0) = BitVec.ofNat 32 (a k).val) :
    k0_pay1 (F := Ideal) v2 v5 v22 (k0_pay8 (F := Ideal) v23) v30 v32 (ix2 r ⟨768 + d.val, by omega⟩)
      = att v30 v32 (a r) d := by
  have h0 : ¬ 768 + d.val < 256 := by omega
  have h1 : ¬ 768 + d.val - 256 < 256 := by omega
  have h2 : ¬ 768 + d.val - 256 - 256 < 256 := by omega
  have h3 : 768 + d.val - 256 - 256 - 256 = d.val := by omega
  pointwise [k0_pay1, k0_pay8]
  simp only [h0, h1, h2, h3, dif_neg, not_false_eq_true, ha, onehot_word]
  exact Finset.sum_congr rfl fun k _ => congrArg (· * v32 (ix2 d k)) (sum_onehot (a r) fun x => v30 (ix2 x k))

end

end Cert.KernelIdeal.Gat
end
-- ==== Proof.Prologue.lean ====
module

public import proofs.«01_k».proof.Proof.Gen.KernelIdeal.Frame
public import proofs.«01_k».proof.Proof.Pay0
public import Idealize.ShloMosaic.Lib.Pipeline.ValueKit
public import Idealize.ShloMosaic.Lib.Pipeline.Covers

@[expose] public section

set_option maxRecDepth 16384

noncomputable section

namespace Cert.KernelIdeal.Gat

open Idealize.ShloMosaic Idealize.ShloMosaic.TcCoe Cert.KernelIdeal Cert.KernelIdeal.Gen Cert.Gat

variable (V : (c : Dev nD) → (b : Ref sig .tc) → Buf (Elt Ideal) ((c : Thread nD τ).loc b)) (c : Dev nD)

/-! The prologue: its blocks as rows of its arrays, and its two tables after the run. -/

/-- The row at lane `k` of block `t`. -/
abbrev row0 (t : Fin cfg0.N) (k : Fin 512) : Fin 4096 :=
  ⟨512 * t.val + k.val, by have := t.isLt; have h : cfg0.N = 8 := rfl; omega⟩

theorem index0_0 : ∀ t : Fin cfg0.N, win0_0.index t (0 : Fin 2) = t.val ∧ win0_0.index t (1 : Fin 2) = 0 := by decide +kernel
theorem index0_1 : ∀ t : Fin cfg0.N, win0_1.index t (0 : Fin 2) = t.val ∧ win0_1.index t (1 : Fin 2) = 0 := by decide +kernel
theorem index0_4 : ∀ t : Fin cfg0.N, win0_4.index t (0 : Fin 2) = t.val ∧ win0_4.index t (1 : Fin 2) = 0 := by decide +kernel
theorem index0_5 : ∀ t : Fin cfg0.N, win0_5.index t (0 : Fin 2) = t.val ∧ win0_5.index t (1 : Fin 2) = 0 := by decide +kernel
theorem index0_12 : ∀ t : Fin cfg0.N, win0_12.index t (0 : Fin 2) = t.val ∧ win0_12.index t (1 : Fin 2) = 0 := by decide +kernel
theorem index0_13 : ∀ t : Fin cfg0.N, win0_13.index t (0 : Fin 2) = t.val ∧ win0_13.index t (1 : Fin 2) = 0 := by decide +kernel
theorem index0_2 : ∀ t : Fin cfg0.N, win0_2.index t (0 : Fin 2) = 0 ∧ win0_2.index t (1 : Fin 2) = 0 := by decide +kernel
theorem index0_3 : ∀ t : Fin cfg0.N, win0_3.index t (0 : Fin 2) = 0 ∧ win0_3.index t (1 : Fin 2) = 0 := by decide +kernel
theorem index0_6 : ∀ t : Fin cfg0.N, win0_6.index t (0 : Fin 2) = 0 ∧ win0_6.index t (1 : Fin 2) = 0 := by decide +kernel
theorem index0_7 : ∀ t : Fin cfg0.N, win0_7.index t (0 : Fin 2) = 0 ∧ win0_7.index t (1 : Fin 2) = 0 := by decide +kernel
theorem index0_8 : ∀ t : Fin cfg0.N, win0_8.index t (0 : Fin 2) = 0 ∧ win0_8.index t (1 : Fin 2) = 0 := by decide +kernel
theorem index0_9 : ∀ t : Fin cfg0.N, win0_9.index t (0 : Fin 2) = 0 ∧ win0_9.index t (1 : Fin 2) = 0 := by decide +kernel
theorem index0_10 : ∀ t : Fin cfg0.N, win0_10.index t (0 : Fin 2) = 0 ∧ win0_10.index t (1 : Fin 2) = 0 := by decide +kernel
theorem index0_11 : ∀ t : Fin cfg0.N, win0_11.index t (0 : Fin 2) = 0 ∧ win0_11.index t (1 : Fin 2) = 0 := by decide +kernel

theorem read0_4 (t : Fin cfg0.N) (k : Fin 512) :
    iblk0 V c 4 t (ix2 k 0) = V c main_v8 (ix2 (row0 t k) 0) := by
  blk_ext! [iblk0, row0, (index0_4 t).1, (index0_4 t).2]

theorem read0_5 (t : Fin cfg0.N) (k : Fin 512) :
    iblk0 V c 5 t (ix2 k 0) = V c main_v11 (ix2 (row0 t k) 0) := by
  blk_ext! [iblk0, row0, (index0_5 t).1, (index0_5 t).2]

theorem read0_0 (t : Fin cfg0.N) (k : Fin 512) (d : Fin 256) :
    iblk0 V c 0 t (ix2 k d) = V c main_arg0 (ix2 (row0 t k) d) := by
  blk_ext! [iblk0, row0, (index0_0 t).1, (index0_0 t).2]

theorem read0_1 (t : Fin cfg0.N) (k : Fin 512) (d : Fin 256) :
    iblk0 V c 1 t (ix2 k d) = V c main_arg1 (ix2 (row0 t k) d) := by
  blk_ext! [iblk0, row0, (index0_1 t).1, (index0_1 t).2]

theorem read0_2 (t : Fin cfg0.N) : iblk0 V c 2 t = V c main_arg0 := by
  funext y
  blk_ext! [iblk0, (index0_2 t).1, (index0_2 t).2]

theorem read0_3 (t : Fin cfg0.N) : iblk0 V c 3 t = V c main_arg1 := by
  funext y
  blk_ext! [iblk0, (index0_3 t).1, (index0_3 t).2]

theorem read0_6 (t : Fin cfg0.N) : iblk0 V c 6 t = V c main_arg8 := by
  funext y
  blk_ext! [iblk0, (index0_6 t).1, (index0_6 t).2]

theorem read0_7 (t : Fin cfg0.N) : iblk0 V c 7 t = V c main_arg9 := by
  funext y
  blk_ext! [iblk0, (index0_7 t).1, (index0_7 t).2]

theorem read0_8 (t : Fin cfg0.N) : iblk0 V c 8 t = V c main_arg10 := by
  funext y
  blk_ext! [iblk0, (index0_8 t).1, (index0_8 t).2]

theorem read0_9 (t : Fin cfg0.N) : iblk0 V c 9 t = V c main_arg11 := by
  funext y
  blk_ext! [iblk0, (index0_9 t).1, (index0_9 t).2]

theorem read0_10 (t : Fin cfg0.N) : iblk0 V c 10 t = V c main_arg12 := by
  funext y
  blk_ext! [iblk0, (index0_10 t).1, (index0_10 t).2]

theorem read0_11 (t : Fin cfg0.N) : iblk0 V c 11 t = V c main_arg13 := by
  funext y
  blk_ext! [iblk0, (index0_11 t).1, (index0_11 t).2]

theorem after0_catu (t : Fin cfg0.N) : (dat0 V c).after 12 t
    = k0_pay1 (F := Ideal) (k0_pay3 (F := Ideal) (iblk0 V c 0 t) (iblk0 V c 7 t)) (k0_pay4 (F := Ideal) (iblk0 V c 0 t) (iblk0 V c 9 t))
        (k0_pay7 (F := Ideal) (iblk0 V c 4 t) (iblk0 V c 3 t) (iblk0 V c 10 t)) (k0_pay8 (F := Ideal) (iblk0 V c 5 t)) (iblk0 V c 2 t) (iblk0 V c 11 t) := by
  rw [after0_12]
  frame_out

theorem after0_cati (t : Fin cfg0.N) : (dat0 V c).after 13 t
    = k0_pay2 (F := Ideal) (k0_pay5 (F := Ideal) (iblk0 V c 1 t) (iblk0 V c 6 t)) (k0_pay6 (F := Ideal) (iblk0 V c 1 t) (iblk0 V c 8 t)) := by
  rw [after0_13]
  frame_out

theorem place0_12 (t : Fin cfg0.N) (k : Fin 512) (d : Fin 1024) :
    ((cfg0.win 12).blk t).view.emb (ix2 k d) = (ix2 (row0 t k) d : (⟨2, ![4096, 1024]⟩ : Shape).Idx) := by
  funext a
  apply Fin.ext
  match a with
  | (0 : Fin 2) => blk_simp [(index0_12 t).1, row0]; exact congrArg (· + k.val) (Nat.mul_comm t.val 512)
  | (1 : Fin 2) => blk_simp [(index0_12 t).2]

theorem place0_13 (t : Fin cfg0.N) (k : Fin 512) (d : Fin 512) :
    ((cfg0.win 13).blk t).view.emb (ix2 k d) = (ix2 (row0 t k) d : (⟨2, ![4096, 512]⟩ : Shape).Idx) := by
  funext a
  apply Fin.ext
  match a with
  | (0 : Fin 2) => blk_simp [(index0_13 t).1, row0]; exact congrArg (· + k.val) (Nat.mul_comm t.val 512)
  | (1 : Fin 2) => blk_simp [(index0_13 t).2]

/-- What the prologue finds: the embeddings, the weights, and the two columns of last partners. -/
structure Entry0 (x : Inp) : Prop where
  hU : V c main_arg0 = x.U
  hI : V c main_arg1 = x.I
  hW1 : V c main_arg8 = x.W1
  hW2 : V c main_arg9 = x.W2
  hW1b : V c main_arg10 = x.W1b
  hW2b : V c main_arg11 = x.W2b
  hW3 : V c main_arg12 = x.W3
  hW4 : V c main_arg13 = x.W4
  hlu : ∀ r : Fin 4096, V c main_v8 (ix2 r 0) = BitVec.ofNat 32 (x.lu r).val
  hli : ∀ r : Fin 4096, V c main_v11 (ix2 r 0) = BitVec.ofNat 32 (x.li r).val

/-- The user table: four groups of 256 columns. -/
def tableU (x : Inp) (r : Fin 4096) (j : Fin 1024) : EReal :=
  if h0 : j.val < 256 then att x.U x.W2 r ⟨j.val, h0⟩
  else if h1 : j.val < 512 then att x.U x.W2b r ⟨j.val - 256, by omega⟩
  else if h2 : j.val < 768 then att x.I x.W3 (x.lu r) ⟨j.val - 512, by omega⟩
  else att x.U x.W4 (x.li r) ⟨j.val - 768, by omega⟩

/-- The item table: two groups of 256 columns. -/
def tableI (x : Inp) (r : Fin 4096) (j : Fin 512) : EReal :=
  if h0 : j.val < 256 then att x.I x.W1 r ⟨j.val, h0⟩ else att x.I x.W1b r ⟨j.val - 256, by omega⟩

/-- A statement about each of the four column groups is one about every column. -/
theorem columns4 {P : Fin 1024 → Prop} (h0 : ∀ d : Fin 256, P ⟨d.val, by omega⟩) (h1 : ∀ d : Fin 256, P ⟨256 + d.val, by omega⟩)
    (h2 : ∀ d : Fin 256, P ⟨512 + d.val, by omega⟩) (h3 : ∀ d : Fin 256, P ⟨768 + d.val, by omega⟩) (j : Fin 1024) : P j := by
  have hj := j.isLt
  by_cases a0 : j.val < 256
  · exact h0 ⟨j.val, a0⟩
  by_cases a1 : j.val < 512
  · exact (Fin.ext (show 256 + (j.val - 256) = j.val by omega) : (⟨256 + (j.val - 256), by omega⟩ : Fin 1024) = j) ▸
      h1 ⟨j.val - 256, by omega⟩
  by_cases a2 : j.val < 768
  · exact (Fin.ext (show 512 + (j.val - 512) = j.val by omega) : (⟨512 + (j.val - 512), by omega⟩ : Fin 1024) = j) ▸
      h2 ⟨j.val - 512, by omega⟩
  · exact (Fin.ext (show 768 + (j.val - 768) = j.val by omega) : (⟨768 + (j.val - 768), by omega⟩ : Fin 1024) = j) ▸
      h3 ⟨j.val - 768, by omega⟩

/-- The same over two groups. -/
theorem columns2 {P : Fin 512 → Prop} (h0 : ∀ d : Fin 256, P ⟨d.val, by omega⟩) (h1 : ∀ d : Fin 256, P ⟨256 + d.val, by omega⟩)
    (j : Fin 512) : P j := by
  have hj := j.isLt
  by_cases a0 : j.val < 256
  · exact h0 ⟨j.val, a0⟩
  · exact (Fin.ext (show 256 + (j.val - 256) = j.val by omega) : (⟨256 + (j.val - 256), by omega⟩ : Fin 512) = j) ▸
      h1 ⟨j.val - 256, by omega⟩

/-- The columns of the user table by group. -/
theorem tableU_A (x : Inp) (r : Fin 4096) (d : Fin 256) : tableU x r ⟨d.val, by omega⟩ = att x.U x.W2 r d := by
  unfold tableU
  rw [dif_pos d.isLt]

theorem tableU_Um (x : Inp) (r : Fin 4096) (d : Fin 256) : tableU x r ⟨256 + d.val, by omega⟩ = att x.U x.W2b r d := by
  have h0 : ¬ 256 + d.val < 256 := by omega
  have h1 : 256 + d.val < 512 := by omega
  unfold tableU
  simp only [dif_neg h0, dif_pos h1, Nat.add_sub_cancel_left]

theorem tableU_Li (x : Inp) (r : Fin 4096) (d : Fin 256) : tableU x r ⟨512 + d.val, by omega⟩ = att x.I x.W3 (x.lu r) d := by
  have h0 : ¬ 512 + d.val < 256 := by omega
  have h1 : ¬ 512 + d.val < 512 := by omega
  have h2 : 512 + d.val < 768 := by omega
  unfold tableU
  simp only [dif_neg h0, dif_neg h1, dif_pos h2, Nat.add_sub_cancel_left]

theorem tableU_Lu (x : Inp) (r : Fin 4096) (d : Fin 256) : tableU x r ⟨768 + d.val, by omega⟩ = att x.U x.W4 (x.li r) d := by
  have h0 : ¬ 768 + d.val < 256 := by omega
  have h1 : ¬ 768 + d.val < 512 := by omega
  have h2 : ¬ 768 + d.val < 768 := by omega
  unfold tableU
  simp only [dif_neg h0, dif_neg h1, dif_neg h2, Nat.add_sub_cancel_left]

/-- The columns of the item table by group. -/
theorem tableI_B (x : Inp) (r : Fin 4096) (d : Fin 256) : tableI x r ⟨d.val, by omega⟩ = att x.I x.W1 r d := by
  unfold tableI
  rw [dif_pos d.isLt]

theorem tableI_Im (x : Inp) (r : Fin 4096) (d : Fin 256) : tableI x r ⟨256 + d.val, by omega⟩ = att x.I x.W1b r d := by
  have h0 : ¬ 256 + d.val < 256 := by omega
  unfold tableI
  simp only [dif_neg h0, Nat.add_sub_cancel_left]

variable {V c} {x : Inp} (H : Entry0 V c x)
include H

theorem Entry0.dotU (t : Fin cfg0.N) (k : Fin 512) (W : Mat 256 256) (d : Fin 256) :
    dotRow (fun j => iblk0 V c 0 t (ix2 k j)) (fun j => W (ix2 d j)) = att x.U W (row0 t k) d := by
  simp only [read0_0, H.hU]
  rfl

theorem Entry0.dotI (t : Fin cfg0.N) (k : Fin 512) (W : Mat 256 256) (d : Fin 256) :
    dotRow (fun j => iblk0 V c 1 t (ix2 k j)) (fun j => W (ix2 d j)) = att x.I W (row0 t k) d := by
  simp only [read0_1, H.hI]
  rfl

/-- The user table after the run. -/
theorem Entry0.catu : (dat0 V c).arrAt 12 cfg0.N = fun j : S4096x1024.Idx => tableU x (j 0) (j 1) := by
  refine (dat0 V c).arrAt_eq_of_covers 12 _ (by decide +kernel) fun t hf y => ?_
  rw [after0_catu]
  obtain ⟨k, j, rfl⟩ : ∃ (k : Fin 512) (j : Fin 1024), y = ix2 k j := ⟨y 0, y 1, eq_ix2 _⟩
  rw [place0_12]
  show k0_pay1 (F := Ideal) _ _ _ _ _ _ (ix2 k j) = tableU x (row0 t k) j
  revert j
  refine columns4 (fun d => ?_) (fun d => ?_) (fun d => ?_) fun d => ?_
  · rw [pay0_catu0, pay0_att2, read0_7, H.hW2, tableU_A]
    exact H.dotU t k x.W2 d
  · rw [pay0_catu1, pay0_att2b, read0_9, H.hW2b, tableU_Um]
    exact H.dotU t k x.W2b d
  · rw [pay0_catu2, pay0_li _ _ _ (fun k => x.lu (row0 t k)) fun k => (read0_4 V c t k).trans (H.hlu _), read0_3, H.hI,
      read0_10, H.hW3, tableU_Li]
  · rw [pay0_catu3 _ _ _ _ _ _ k d (fun k => x.li (row0 t k)) fun k => (read0_5 V c t k).trans (H.hli _), read0_2, H.hU,
      read0_11, H.hW4, tableU_Lu]

/-- The item table after the run. -/
theorem Entry0.cati : (dat0 V c).arrAt 13 cfg0.N = fun j : S4096x512.Idx => tableI x (j 0) (j 1) := by
  refine (dat0 V c).arrAt_eq_of_covers 13 _ (by decide +kernel) fun t hf y => ?_
  rw [after0_cati]
  obtain ⟨k, j, rfl⟩ : ∃ (k : Fin 512) (j : Fin 512), y = ix2 k j := ⟨y 0, y 1, eq_ix2 _⟩
  rw [place0_13]
  show k0_pay2 (F := Ideal) _ _ (ix2 k j) = tableI x (row0 t k) j
  revert j
  refine columns2 (fun d => ?_) fun d => ?_
  · rw [pay0_cati0, pay0_att1, read0_6, H.hW1, tableI_B]
    exact H.dotI t k x.W1 d
  · rw [pay0_cati1, pay0_att1b, read0_8, H.hW1b, tableI_Im]
    exact H.dotI t k x.W1b d

end Cert.KernelIdeal.Gat
end
-- ==== Proof.Pay1.lean ====
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Gat

open Idealize.ShloMosaic Cert.KernelIdeal Cert.KernelIdeal.Gen Cert.Gat

/-! One block of the first pass, each value at an index: the block's edges have users `a k` and items `b k`. -/

section
variable (v0 v7 : Vec Ideal S512x1 .i32) (v14 : Vec Ideal S4096x1024 .f32) (v17 : Vec Ideal S4096x512 .f32)
  (a b : Fin 512 → Fin 4096)
  (ha : ∀ k, v0 (ix2 k 0) = BitVec.ofNat 32 (a k).val) (hb : ∀ k, v7 (ix2 k 0) = BitVec.ofNat 32 (b k).val)

include ha in
/-- The user one-hot. -/
theorem pay1_P (k : Fin 512) (n : Fin 4096) :
    k1_pay4 (F := Ideal) v0 (ix2 k n) = if a k = n then (1 : EReal) else 0 := by
  pointwise [k1_pay4]
  rw [ha, onehot_word]

include hb in
/-- The item one-hot. -/
theorem pay1_Q (k : Fin 512) (n : Fin 4096) :
    k1_pay5 (F := Ideal) v7 (ix2 k n) = if b k = n then (1 : EReal) else 0 := by
  pointwise [k1_pay5]
  rw [hb, onehot_word]

include ha in
/-- The user one-hot times the user table is the table's row of the edge's user. -/
theorem pay1_GU (k : Fin 512) (j : Fin 1024) :
    k1_pay6 (F := Ideal) v0 v14 (ix2 k j) = v14 (ix2 (a k) j) := by
  pointwise [k1_pay6]
  simp only [pay1_P v0 a ha]
  exact sum_onehot (a k) fun x => v14 (ix2 x j)

include hb in
/-- The item one-hot times the item table is the table's row of the edge's item. -/
theorem pay1_GI (k : Fin 512) (j : Fin 512) :
    k1_pay7 (F := Ideal) v7 v17 (ix2 k j) = v17 (ix2 (b k) j) := by
  pointwise [k1_pay7]
  simp only [pay1_Q v7 b hb]
  exact sum_onehot (b k) fun x => v17 (ix2 x j)

include ha in
theorem pay1_A (k : Fin 512) (d : Fin 256) :
    k1_pay8 (F := Ideal) v0 v14 (ix2 k d) = v14 (ix2 (a k) ⟨d.val, by omega⟩) := by
  pointwise [k1_pay8]
  exact pay1_GU v0 v14 a ha k _

include ha in
theorem pay1_Um (k : Fin 512) (d : Fin 256) :
    k1_pay9 (F := Ideal) v0 v14 (ix2 k d) = v14 (ix2 (a k) ⟨256 + d.val, by omega⟩) := by
  pointwise [k1_pay9]
  exact pay1_GU v0 v14 a ha k _

include ha in
theorem pay1_Li (k : Fin 512) (d : Fin 256) :
    k1_pay10 (F := Ideal) v0 v14 (ix2 k d) = v14 (ix2 (a k) ⟨512 + d.val, by omega⟩) := by
  pointwise [k1_pay10]
  exact pay1_GU v0 v14 a ha k _

include ha in
theorem pay1_Lu (k : Fin 512) (d : Fin 256) :
    k1_pay11 (F := Ideal) v0 v14 (ix2 k d) = v14 (ix2 (a k) ⟨768 + d.val, by omega⟩) := by
  pointwise [k1_pay11]
  exact pay1_GU v0 v14 a ha k _

include hb in
theorem pay1_B (k : Fin 512) (d : Fin 256) :
    k1_pay12 (F := Ideal) v7 v17 (ix2 k d) = v17 (ix2 (b k) ⟨d.val, by omega⟩) := by
  pointwise [k1_pay12]
  exact pay1_GI v7 v17 b hb k _

include hb in
theorem pay1_Im (k : Fin 512) (d : Fin 256) :
    k1_pay13 (F := Ideal) v7 v17 (ix2 k d) = v17 (ix2 (b k) ⟨256 + d.val, by omega⟩) := by
  pointwise [k1_pay13]
  exact pay1_GI v7 v17 b hb k _

/-- The user–item score of an edge, as a row sum. -/
theorem pay1_ev (k : Fin 512) :
    k1_pay14 (F := Ideal) v0 v7 v14 v17 (ix2 k 0)
      = dotRow (fun d => k1_pay8 (F := Ideal) v0 v14 (ix2 k d)) (fun d => k1_pay12 (F := Ideal) v7 v17 (ix2 k d)) := by
  pointwise [k1_pay14]
  rfl

theorem pay1_ex1 (v26 : Vec Ideal S512x256 .f32) (k : Fin 512) :
    k1_pay15 (F := Ideal) v0 v7 v14 v17 v26 (ix2 k 0)
      = Ideal.exp (Ideal.div (k1_pay14 (F := Ideal) v0 v7 v14 v17 (ix2 k 0)
          + dotRow (fun d => k1_pay8 (F := Ideal) v0 v14 (ix2 k d)) (fun d => v26 (ix2 k d))) scale) := by
  pointwise [k1_pay15]
  rfl

theorem pay1_pk (v27 : Vec Ideal S512x256 .f32) (k : Fin 512) :
    k1_pay16 (F := Ideal) v7 v17 v27 (ix2 k 0)
      = dotRow (fun d => k1_pay12 (F := Ideal) v7 v17 (ix2 k d)) (fun d => v27 (ix2 k d)) := by
  pointwise [k1_pay16]
  rfl

end

theorem pay1_ex2 (v30 v40 : Vec Ideal S512x1 .f32) (k : Fin 512) :
    k1_pay17 (F := Ideal) v30 v40 (ix2 k 0) = Ideal.exp (Ideal.div (v30 (ix2 k 0) + v40 (ix2 k 0)) scale) := by
  pointwise [k1_pay17]

theorem pay1_ex3 (v22 v24 : Vec Ideal S512x256 .f32) (k : Fin 512) :
    k1_pay18 (F := Ideal) v22 v24 (ix2 k 0)
      = Ideal.exp (Ideal.div (dotRow (fun d => v22 (ix2 k d)) (fun d => v24 (ix2 k d))) scale) := by
  pointwise [k1_pay18]
  rfl

theorem pay1_ex4 (v23 v24 : Vec Ideal S512x256 .f32) (k : Fin 512) :
    k1_pay19 (F := Ideal) v23 v24 (ix2 k 0)
      = Ideal.exp (Ideal.div (dotRow (fun d => v23 (ix2 k d)) (fun d => v24 (ix2 k d))) scale) := by
  pointwise [k1_pay19]
  rfl

/-- The zero blocks the running sums start from. -/
theorem pay1_zeroU (n : Fin 4096) (z : Fin 128) : k1_pay21 (F := Ideal) (ix2 n z) = (0 : EReal) := by
  pointwise [k1_pay21]

theorem pay1_zeroI (n : Fin 4096) (z : Fin 128) : k1_pay22 (F := Ideal) (ix2 n z) = (0 : EReal) := by
  pointwise [k1_pay22]

section
variable (v6 v13 : Vec Ideal S512x4096 .f32) (v22 v23 v24 : Vec Ideal S512x256 .f32)
  (v30 v37 v40 : Vec Ideal S512x1 .f32) (v63 : Vec Ideal S4096x128 .f32)

/-- A block's step of the user sums, column 0. -/
theorem pay1_denU0 (n : Fin 4096) :
    k1_pay23 (F := Ideal) v6 v22 v24 v37 v63 (ix2 n 0)
      = v63 (ix2 n 0) + ∑ k : Fin 512, v6 (ix2 k n) * v37 (ix2 k 0) := by
  pointwise [k1_pay23]

/-- A block's step of the user sums, column 1. -/
theorem pay1_denU1 (n : Fin 4096) :
    k1_pay23 (F := Ideal) v6 v22 v24 v37 v63 (ix2 n 1)
      = v63 (ix2 n 1) + ∑ k : Fin 512, v6 (ix2 k n) * k1_pay18 (F := Ideal) v22 v24 (ix2 k 0) := by
  pointwise [k1_pay23]

/-- A block's step of the item sums, column 0. -/
theorem pay1_denI0 (n : Fin 4096) :
    k1_pay24 (F := Ideal) v13 v23 v24 v30 v40 v63 (ix2 n 0)
      = v63 (ix2 n 0) + ∑ k : Fin 512, v13 (ix2 k n) * k1_pay17 (F := Ideal) v30 v40 (ix2 k 0) := by
  pointwise [k1_pay24]

/-- A block's step of the item sums, column 1. -/
theorem pay1_denI1 (n : Fin 4096) :
    k1_pay24 (F := Ideal) v13 v23 v24 v30 v40 v63 (ix2 n 1)
      = v63 (ix2 n 1) + ∑ k : Fin 512, v13 (ix2 k n) * k1_pay19 (F := Ideal) v23 v24 (ix2 k 0) := by
  pointwise [k1_pay24]

/-- The block of exponentials, column by column. -/
theorem pay1_exs0 (k : Fin 512) :
    k1_pay25 (F := Ideal) v22 v23 v24 v30 v37 v40 (ix2 k 0) = v37 (ix2 k 0) := by
  pointwise [k1_pay25]

theorem pay1_exs1 (k : Fin 512) :
    k1_pay25 (F := Ideal) v22 v23 v24 v30 v37 v40 (ix2 k 1) = k1_pay17 (F := Ideal) v30 v40 (ix2 k 0) := by
  pointwise [k1_pay25]

theorem pay1_exs2 (k : Fin 512) :
    k1_pay25 (F := Ideal) v22 v23 v24 v30 v37 v40 (ix2 k 2) = k1_pay18 (F := Ideal) v22 v24 (ix2 k 0) := by
  pointwise [k1_pay25]

theorem pay1_exs3 (k : Fin 512) :
    k1_pay25 (F := Ideal) v22 v23 v24 v30 v37 v40 (ix2 k 3) = k1_pay19 (F := Ideal) v23 v24 (ix2 k 0) := by
  pointwise [k1_pay25]

/-- The four blocks of rows. -/
theorem pay1_g1 (k : Fin 512) (d : Fin 256) :
    k1_pay26 (F := Ideal) v22 v23 (ix2 k d) = v22 (ix2 k d) + v23 (ix2 k d) := by
  pointwise [k1_pay26]

theorem pay1_g2 (k : Fin 512) (d : Fin 256) :
    k1_pay1 (F := Ideal) v22 (ix2 k d) = v22 (ix2 k d) + unit := by
  pointwise [k1_pay1]

theorem pay1_g3 (k : Fin 512) (d : Fin 256) :
    k1_pay2 (F := Ideal) v22 v23 (ix2 k d) = v22 (ix2 k d) + v23 (ix2 k d) := by
  pointwise [k1_pay2]

theorem pay1_g4 (k : Fin 512) (d : Fin 256) :
    k1_pay3 (F := Ideal) v22 (ix2 k d) = v22 (ix2 k d) + unit := by
  pointwise [k1_pay3]

end

end Cert.KernelIdeal.Gat
end
-- ==== Proof.Block1.lean ====
module

public import proofs.«01_k».proof.Proof.Gen.KernelIdeal.Frame
public import proofs.«01_k».proof.Proof.Pay1
public import Idealize.ShloMosaic.Lib.Pipeline.ValueKit
public import Idealize.ShloMosaic.Lib.Pipeline.Covers

@[expose] public section

set_option maxRecDepth 16384

noncomputable section

namespace Cert.KernelIdeal.Gat

open Idealize.ShloMosaic Idealize.ShloMosaic.TcCoe Cert.KernelIdeal Cert.KernelIdeal.Gen Cert.Gat

variable (V : (c : Dev nD) → (b : Ref sig .tc) → Buf (Elt Ideal) ((c : Thread nD τ).loc b)) (c : Dev nD)

/-! The first pass: its blocks as rows of its arrays, and what a grid point leaves in each output block. -/

/-- The edge at lane `k` of block `t`. -/
abbrev edge1 (t : Fin cfg1.N) (k : Fin 512) : Fin 131072 :=
  ⟨512 * t.val + k.val, by have := t.isLt; have h : cfg1.N = 256 := rfl; omega⟩

theorem index1_0 : ∀ t : Fin cfg1.N, win1_0.index t (0 : Fin 2) = t.val ∧ win1_0.index t (1 : Fin 2) = 0 := by decide +kernel
theorem index1_1 : ∀ t : Fin cfg1.N, win1_1.index t (0 : Fin 2) = t.val ∧ win1_1.index t (1 : Fin 2) = 0 := by decide +kernel
theorem index1_2 : ∀ t : Fin cfg1.N, win1_2.index t (0 : Fin 2) = t.val ∧ win1_2.index t (1 : Fin 2) = 0 := by decide +kernel
theorem index1_3 : ∀ t : Fin cfg1.N, win1_3.index t (0 : Fin 2) = t.val ∧ win1_3.index t (1 : Fin 2) = 0 := by decide +kernel
theorem index1_8 : ∀ t : Fin cfg1.N, win1_8.index t (0 : Fin 2) = t.val ∧ win1_8.index t (1 : Fin 2) = 0 := by decide +kernel
theorem index1_9 : ∀ t : Fin cfg1.N, win1_9.index t (0 : Fin 2) = t.val ∧ win1_9.index t (1 : Fin 2) = 0 := by decide +kernel
theorem index1_10 : ∀ t : Fin cfg1.N, win1_10.index t (0 : Fin 2) = t.val ∧ win1_10.index t (1 : Fin 2) = 0 := by decide +kernel
theorem index1_11 : ∀ t : Fin cfg1.N, win1_11.index t (0 : Fin 2) = t.val ∧ win1_11.index t (1 : Fin 2) = 0 := by decide +kernel
theorem index1_12 : ∀ t : Fin cfg1.N, win1_12.index t (0 : Fin 2) = t.val ∧ win1_12.index t (1 : Fin 2) = 0 := by decide +kernel
theorem index1_4 : ∀ t : Fin cfg1.N, win1_4.index t (0 : Fin 2) = 0 ∧ win1_4.index t (1 : Fin 2) = 0 := by decide +kernel
theorem index1_5 : ∀ t : Fin cfg1.N, win1_5.index t (0 : Fin 2) = 0 ∧ win1_5.index t (1 : Fin 2) = 0 := by decide +kernel

theorem read1_0 (t : Fin cfg1.N) (k : Fin 512) :
    iblk1 V c 0 t (ix2 k 0) = V c main_v2 (ix2 (edge1 t k) 0) := by
  blk_ext! [iblk1, edge1, (index1_0 t).1, (index1_0 t).2]

theorem read1_1 (t : Fin cfg1.N) (k : Fin 512) :
    iblk1 V c 1 t (ix2 k 0) = V c main_v5 (ix2 (edge1 t k) 0) := by
  blk_ext! [iblk1, edge1, (index1_1 t).1, (index1_1 t).2]

theorem read1_2 (t : Fin cfg1.N) (k : Fin 512) (d : Fin 256) :
    iblk1 V c 2 t (ix2 k d) = V c main_arg3 (ix2 (edge1 t k) d) := by
  blk_ext! [iblk1, edge1, (index1_2 t).1, (index1_2 t).2]

theorem read1_3 (t : Fin cfg1.N) (k : Fin 512) (d : Fin 256) :
    iblk1 V c 3 t (ix2 k d) = V c main_arg4 (ix2 (edge1 t k) d) := by
  blk_ext! [iblk1, edge1, (index1_3 t).1, (index1_3 t).2]

theorem read1_4 (t : Fin cfg1.N) : iblk1 V c 4 t = V c main_v12_0 := by
  funext y
  blk_ext! [iblk1, (index1_4 t).1, (index1_4 t).2]

theorem read1_5 (t : Fin cfg1.N) : iblk1 V c 5 t = V c main_v12_1 := by
  funext y
  blk_ext! [iblk1, (index1_5 t).1, (index1_5 t).2]

theorem outs1_8 (t : Fin cfg1.N) : (outsAt1 V c t.val t.isLt).2.2.1 = k1_pay25 (F := Ideal) (k1_pay10 (F := Ideal) (iblk1 V c 0 t) (iblk1 V c 4 t)) (k1_pay11 (F := Ideal) (iblk1 V c 0 t) (iblk1 V c 4 t)) (k1_pay12 (F := Ideal) (iblk1 V c 1 t) (iblk1 V c 5 t)) (k1_pay14 (F := Ideal) (iblk1 V c 0 t) (iblk1 V c 1 t) (iblk1 V c 4 t) (iblk1 V c 5 t)) (k1_pay15 (F := Ideal) (iblk1 V c 0 t) (iblk1 V c 1 t) (iblk1 V c 4 t) (iblk1 V c 5 t) (iblk1 V c 2 t)) (k1_pay16 (F := Ideal) (iblk1 V c 1 t) (iblk1 V c 5 t) (iblk1 V c 3 t)) := by
  by_cases h : t.val % 256 = 0
  · rw [outsAt1_A V c t h]
    dsimp only
    frame_out
  · rw [outsAt1_B V c t h]
    dsimp only
    frame_out

theorem outs1_9 (t : Fin cfg1.N) : (outsAt1 V c t.val t.isLt).2.2.2.1 = k1_pay26 (F := Ideal) (k1_pay13 (F := Ideal) (iblk1 V c 1 t) (iblk1 V c 5 t)) (iblk1 V c 3 t) := by
  by_cases h : t.val % 256 = 0
  · rw [outsAt1_A V c t h]
    dsimp only
    frame_out
  · rw [outsAt1_B V c t h]
    dsimp only
    frame_out

theorem outs1_10 (t : Fin cfg1.N) : (outsAt1 V c t.val t.isLt).2.2.2.2.1 = k1_pay1 (F := Ideal) (k1_pay12 (F := Ideal) (iblk1 V c 1 t) (iblk1 V c 5 t)) := by
  by_cases h : t.val % 256 = 0
  · rw [outsAt1_A V c t h]
    dsimp only
    frame_out
  · rw [outsAt1_B V c t h]
    dsimp only
    frame_out

theorem outs1_11 (t : Fin cfg1.N) : (outsAt1 V c t.val t.isLt).2.2.2.2.2.1 = k1_pay2 (F := Ideal) (k1_pay9 (F := Ideal) (iblk1 V c 0 t) (iblk1 V c 4 t)) (iblk1 V c 2 t) := by
  by_cases h : t.val % 256 = 0
  · rw [outsAt1_A V c t h]
    dsimp only
    frame_out
  · rw [outsAt1_B V c t h]
    dsimp only
    frame_out

theorem outs1_12 (t : Fin cfg1.N) : (outsAt1 V c t.val t.isLt).2.2.2.2.2.2 = k1_pay3 (F := Ideal) (k1_pay8 (F := Ideal) (iblk1 V c 0 t) (iblk1 V c 4 t)) := by
  by_cases h : t.val % 256 = 0
  · rw [outsAt1_A V c t h]
    dsimp only
    frame_out
  · rw [outsAt1_B V c t h]
    dsimp only
    frame_out

theorem outs1_6_first (t : Fin cfg1.N) (h : t.val % 256 = 0) :
    (outsAt1 V c t.val t.isLt).1 = k1_pay23 (F := Ideal) (k1_pay4 (F := Ideal) (iblk1 V c 0 t)) (k1_pay10 (F := Ideal) (iblk1 V c 0 t) (iblk1 V c 4 t)) (k1_pay12 (F := Ideal) (iblk1 V c 1 t) (iblk1 V c 5 t)) (k1_pay15 (F := Ideal) (iblk1 V c 0 t) (iblk1 V c 1 t) (iblk1 V c 4 t) (iblk1 V c 5 t) (iblk1 V c 2 t)) (k1_pay21 (F := Ideal)) := by
  rw [outsAt1_A V c t h]
  dsimp only
  frame_out

theorem outs1_6_step (t : Fin cfg1.N) (h : ¬t.val % 256 = 0) :
    (outsAt1 V c t.val t.isLt).1 = k1_pay23 (F := Ideal) (k1_pay4 (F := Ideal) (iblk1 V c 0 t)) (k1_pay10 (F := Ideal) (iblk1 V c 0 t) (iblk1 V c 4 t)) (k1_pay12 (F := Ideal) (iblk1 V c 1 t) (iblk1 V c 5 t)) (k1_pay15 (F := Ideal) (iblk1 V c 0 t) (iblk1 V c 1 t) (iblk1 V c 4 t) (iblk1 V c 5 t) (iblk1 V c 2 t)) (outsAt1 V c (t.val - 1) (Nat.lt_of_le_of_lt (Nat.sub_le _ _) t.isLt)).1 := by
  rw [outsAt1_B V c t h]
  dsimp only
  frame_out

theorem outs1_7_first (t : Fin cfg1.N) (h : t.val % 256 = 0) :
    (outsAt1 V c t.val t.isLt).2.1 = k1_pay24 (F := Ideal) (k1_pay5 (F := Ideal) (iblk1 V c 1 t)) (k1_pay11 (F := Ideal) (iblk1 V c 0 t) (iblk1 V c 4 t)) (k1_pay12 (F := Ideal) (iblk1 V c 1 t) (iblk1 V c 5 t)) (k1_pay14 (F := Ideal) (iblk1 V c 0 t) (iblk1 V c 1 t) (iblk1 V c 4 t) (iblk1 V c 5 t)) (k1_pay16 (F := Ideal) (iblk1 V c 1 t) (iblk1 V c 5 t) (iblk1 V c 3 t)) (k1_pay22 (F := Ideal)) := by
  rw [outsAt1_A V c t h]
  dsimp only
  frame_out

theorem outs1_7_step (t : Fin cfg1.N) (h : ¬t.val % 256 = 0) :
    (outsAt1 V c t.val t.isLt).2.1 = k1_pay24 (F := Ideal) (k1_pay5 (F := Ideal) (iblk1 V c 1 t)) (k1_pay11 (F := Ideal) (iblk1 V c 0 t) (iblk1 V c 4 t)) (k1_pay12 (F := Ideal) (iblk1 V c 1 t) (iblk1 V c 5 t)) (k1_pay14 (F := Ideal) (iblk1 V c 0 t) (iblk1 V c 1 t) (iblk1 V c 4 t) (iblk1 V c 5 t)) (k1_pay16 (F := Ideal) (iblk1 V c 1 t) (iblk1 V c 5 t) (iblk1 V c 3 t)) (outsAt1 V c (t.val - 1) (Nat.lt_of_le_of_lt (Nat.sub_le _ _) t.isLt)).2.1 := by
  rw [outsAt1_B V c t h]
  dsimp only
  frame_out

end Cert.KernelIdeal.Gat
end
-- ==== Proof.PassA.lean ====
module

public import proofs.«01_k».proof.Proof.Block1

@[expose] public section

set_option maxRecDepth 16384

noncomputable section

namespace Cert.KernelIdeal.Gat

open Idealize.ShloMosaic Idealize.ShloMosaic.TcCoe Cert.KernelIdeal Cert.KernelIdeal.Gen Cert.Gat

variable (V : (c : Dev nD) → (b : Ref sig .tc) → Buf (Elt Ideal) ((c : Thread nD τ).loc b)) (c : Dev nD)

/-! The first pass: its arrays after the run, as the attention quantities of the edges. -/

/-- What the first pass finds: index columns, the two per-edge inputs, and the two tables the prologue left. -/
structure Entry1 (x : Inp) : Prop where
  hu : ∀ e : Fin 131072, V c main_v2 (ix2 e 0) = BitVec.ofNat 32 (x.us e).val
  hi : ∀ e : Fin 131072, V c main_v5 (ix2 e 0) = BitVec.ofNat 32 (x.is e).val
  hpV : V c main_arg3 = x.pV
  hpK : V c main_arg4 = x.pK
  hA : ∀ (r : Fin 4096) (d : Fin 256), V c main_v12_0 (ix2 r ⟨d.val, by omega⟩) = att x.U x.W2 r d
  hUm : ∀ (r : Fin 4096) (d : Fin 256), V c main_v12_0 (ix2 r ⟨256 + d.val, by omega⟩) = att x.U x.W2b r d
  hLi : ∀ (r : Fin 4096) (d : Fin 256), V c main_v12_0 (ix2 r ⟨512 + d.val, by omega⟩) = att x.I x.W3 (x.lu r) d
  hLu : ∀ (r : Fin 4096) (d : Fin 256), V c main_v12_0 (ix2 r ⟨768 + d.val, by omega⟩) = att x.U x.W4 (x.li r) d
  hB : ∀ (r : Fin 4096) (d : Fin 256), V c main_v12_1 (ix2 r ⟨d.val, by omega⟩) = att x.I x.W1 r d
  hIm : ∀ (r : Fin 4096) (d : Fin 256), V c main_v12_1 (ix2 r ⟨256 + d.val, by omega⟩) = att x.I x.W1b r d

/-- The last grid point. -/
abbrev last1 : Fin cfg1.N := ⟨255, by decide⟩

/-! Where a block lies in its array. -/

theorem place1_8 (t : Fin cfg1.N) (k : Fin 512) (d : Fin 4) :
    ((cfg1.win 8).blk t).view.emb (ix2 k d) = (ix2 (edge1 t k) d : (⟨2, ![131072, 4]⟩ : Shape).Idx) := by
  funext a
  apply Fin.ext
  match a with
  | (0 : Fin 2) => blk_simp [(index1_8 t).1, edge1]; exact congrArg (· + k.val) (Nat.mul_comm t.val 512)
  | (1 : Fin 2) => blk_simp [(index1_8 t).2]

theorem place1_9 (t : Fin cfg1.N) (k : Fin 512) (d : Fin 256) :
    ((cfg1.win 9).blk t).view.emb (ix2 k d) = (ix2 (edge1 t k) d : (⟨2, ![131072, 256]⟩ : Shape).Idx) := by
  funext a
  apply Fin.ext
  match a with
  | (0 : Fin 2) => blk_simp [(index1_9 t).1, edge1]; exact congrArg (· + k.val) (Nat.mul_comm t.val 512)
  | (1 : Fin 2) => blk_simp [(index1_9 t).2]

theorem place1_10 (t : Fin cfg1.N) (k : Fin 512) (d : Fin 256) :
    ((cfg1.win 10).blk t).view.emb (ix2 k d) = (ix2 (edge1 t k) d : (⟨2, ![131072, 256]⟩ : Shape).Idx) := by
  funext a
  apply Fin.ext
  match a with
  | (0 : Fin 2) => blk_simp [(index1_10 t).1, edge1]; exact congrArg (· + k.val) (Nat.mul_comm t.val 512)
  | (1 : Fin 2) => blk_simp [(index1_10 t).2]

theorem place1_11 (t : Fin cfg1.N) (k : Fin 512) (d : Fin 256) :
    ((cfg1.win 11).blk t).view.emb (ix2 k d) = (ix2 (edge1 t k) d : (⟨2, ![131072, 256]⟩ : Shape).Idx) := by
  funext a
  apply Fin.ext
  match a with
  | (0 : Fin 2) => blk_simp [(index1_11 t).1, edge1]; exact congrArg (· + k.val) (Nat.mul_comm t.val 512)
  | (1 : Fin 2) => blk_simp [(index1_11 t).2]

theorem place1_12 (t : Fin cfg1.N) (k : Fin 512) (d : Fin 256) :
    ((cfg1.win 12).blk t).view.emb (ix2 k d) = (ix2 (edge1 t k) d : (⟨2, ![131072, 256]⟩ : Shape).Idx) := by
  funext a
  apply Fin.ext
  match a with
  | (0 : Fin 2) => blk_simp [(index1_12 t).1, edge1]; exact congrArg (· + k.val) (Nat.mul_comm t.val 512)
  | (1 : Fin 2) => blk_simp [(index1_12 t).2]

variable {V c} {x : Inp} (H : Entry1 V c x)
include H

theorem Entry1.user (t : Fin cfg1.N) (k : Fin 512) :
    iblk1 V c 0 t (ix2 k 0) = BitVec.ofNat 32 (x.us (edge1 t k)).val := (read1_0 V c t k).trans (H.hu _)

theorem Entry1.item (t : Fin cfg1.N) (k : Fin 512) :
    iblk1 V c 1 t (ix2 k 0) = BitVec.ofNat 32 (x.is (edge1 t k)).val := (read1_1 V c t k).trans (H.hi _)

theorem Entry1.pv (t : Fin cfg1.N) (k : Fin 512) (d : Fin 256) :
    iblk1 V c 2 t (ix2 k d) = x.pV (ix2 (edge1 t k) d) := (read1_2 V c t k d).trans (by rw [H.hpV])

theorem Entry1.pk (t : Fin cfg1.N) (k : Fin 512) (d : Fin 256) :
    iblk1 V c 3 t (ix2 k d) = x.pK (ix2 (edge1 t k) d) := (read1_3 V c t k d).trans (by rw [H.hpK])

theorem Entry1.rowA (t : Fin cfg1.N) (k : Fin 512) (d : Fin 256) :
    k1_pay8 (F := Ideal) (iblk1 V c 0 t) (iblk1 V c 4 t) (ix2 k d) = x.rowA (edge1 t k) d := by
  rw [pay1_A _ _ _ (H.user t), read1_4, H.hA]
  rfl

theorem Entry1.rowUm (t : Fin cfg1.N) (k : Fin 512) (d : Fin 256) :
    k1_pay9 (F := Ideal) (iblk1 V c 0 t) (iblk1 V c 4 t) (ix2 k d) = x.rowUm (edge1 t k) d := by
  rw [pay1_Um _ _ _ (H.user t), read1_4, H.hUm]
  rfl

theorem Entry1.rowLi (t : Fin cfg1.N) (k : Fin 512) (d : Fin 256) :
    k1_pay10 (F := Ideal) (iblk1 V c 0 t) (iblk1 V c 4 t) (ix2 k d) = x.rowLi (edge1 t k) d := by
  rw [pay1_Li _ _ _ (H.user t), read1_4, H.hLi]
  rfl

theorem Entry1.rowLu (t : Fin cfg1.N) (k : Fin 512) (d : Fin 256) :
    k1_pay11 (F := Ideal) (iblk1 V c 0 t) (iblk1 V c 4 t) (ix2 k d) = x.rowLu (edge1 t k) d := by
  rw [pay1_Lu _ _ _ (H.user t), read1_4, H.hLu]
  rfl

theorem Entry1.rowB (t : Fin cfg1.N) (k : Fin 512) (d : Fin 256) :
    k1_pay12 (F := Ideal) (iblk1 V c 1 t) (iblk1 V c 5 t) (ix2 k d) = x.rowB (edge1 t k) d := by
  rw [pay1_B _ _ _ (H.item t), read1_5, H.hB]
  rfl

theorem Entry1.rowIm (t : Fin cfg1.N) (k : Fin 512) (d : Fin 256) :
    k1_pay13 (F := Ideal) (iblk1 V c 1 t) (iblk1 V c 5 t) (ix2 k d) = x.rowIm (edge1 t k) d := by
  rw [pay1_Im _ _ _ (H.item t), read1_5, H.hIm]
  rfl

theorem Entry1.ev (t : Fin cfg1.N) (k : Fin 512) :
    k1_pay14 (F := Ideal) (iblk1 V c 0 t) (iblk1 V c 1 t) (iblk1 V c 4 t) (iblk1 V c 5 t) (ix2 k 0)
      = dotRow (x.rowA (edge1 t k)) (x.rowB (edge1 t k)) := by
  rw [pay1_ev]
  exact congrArg₂ dotRow (funext (H.rowA t k)) (funext (H.rowB t k))

theorem Entry1.ex1 (t : Fin cfg1.N) (k : Fin 512) :
    k1_pay15 (F := Ideal) (iblk1 V c 0 t) (iblk1 V c 1 t) (iblk1 V c 4 t) (iblk1 V c 5 t) (iblk1 V c 2 t) (ix2 k 0)
      = x.ex1 (edge1 t k) := by
  rw [pay1_ex1, H.ev, funext (H.rowA t k), funext (H.pv t k)]
  rfl

theorem Entry1.ex2 (t : Fin cfg1.N) (k : Fin 512) :
    k1_pay17 (F := Ideal) (k1_pay14 (F := Ideal) (iblk1 V c 0 t) (iblk1 V c 1 t) (iblk1 V c 4 t) (iblk1 V c 5 t))
      (k1_pay16 (F := Ideal) (iblk1 V c 1 t) (iblk1 V c 5 t) (iblk1 V c 3 t)) (ix2 k 0) = x.ex2 (edge1 t k) := by
  rw [pay1_ex2, H.ev, pay1_pk, funext (H.rowB t k), funext (H.pk t k)]
  rfl

theorem Entry1.ex3 (t : Fin cfg1.N) (k : Fin 512) :
    k1_pay18 (F := Ideal) (k1_pay10 (F := Ideal) (iblk1 V c 0 t) (iblk1 V c 4 t)) (k1_pay12 (F := Ideal) (iblk1 V c 1 t) (iblk1 V c 5 t)) (ix2 k 0)
      = x.ex3 (edge1 t k) := by
  rw [pay1_ex3, funext (H.rowLi t k), funext (H.rowB t k)]
  rfl

theorem Entry1.ex4 (t : Fin cfg1.N) (k : Fin 512) :
    k1_pay19 (F := Ideal) (k1_pay11 (F := Ideal) (iblk1 V c 0 t) (iblk1 V c 4 t)) (k1_pay12 (F := Ideal) (iblk1 V c 1 t) (iblk1 V c 5 t)) (ix2 k 0)
      = x.ex4 (edge1 t k) := by
  rw [pay1_ex4, funext (H.rowLu t k), funext (H.rowB t k)]
  rfl

/-! The per-edge arrays. -/

/-- The array of exponentials. -/
theorem Entry1.exs : (dat1 V c).arrAt 8 cfg1.N
    = fun j : S131072x4.Idx => (![x.ex1 (j 0), x.ex2 (j 0), x.ex3 (j 0), x.ex4 (j 0)] : Fin 4 → EReal) (j 1) := by
  refine (dat1 V c).arrAt_eq_of_covers 8 _ (by decide +kernel) fun t hf y => ?_
  rw [after1_8, outs1_8]
  obtain ⟨k, d, rfl⟩ : ∃ (k : Fin 512) (d : Fin 4), y = ix2 k d := ⟨y 0, y 1, eq_ix2 _⟩
  rw [place1_8]
  match d with
  | 0 => exact (pay1_exs0 _ _ _ _ _ _ k).trans (H.ex1 t k)
  | 1 => exact (pay1_exs1 _ _ _ _ _ _ k).trans (H.ex2 t k)
  | 2 => exact (pay1_exs2 _ _ _ _ _ _ k).trans (H.ex3 t k)
  | 3 => exact (pay1_exs3 _ _ _ _ _ _ k).trans (H.ex4 t k)

theorem Entry1.g1 : (dat1 V c).arrAt 9 cfg1.N = fun j : S131072x256.Idx => x.g1 (j 0) (j 1) := by
  refine (dat1 V c).arrAt_eq_of_covers 9 _ (by decide +kernel) fun t hf y => ?_
  rw [after1_9, outs1_9]
  obtain ⟨k, d, rfl⟩ : ∃ (k : Fin 512) (d : Fin 256), y = ix2 k d := ⟨y 0, y 1, eq_ix2 _⟩
  rw [place1_9]
  exact (pay1_g1 _ _ k d).trans (congrArg₂ (· + ·) (H.rowIm t k d) (H.pk t k d))

theorem Entry1.g2 : (dat1 V c).arrAt 10 cfg1.N = fun j : S131072x256.Idx => x.g2 (j 0) (j 1) := by
  refine (dat1 V c).arrAt_eq_of_covers 10 _ (by decide +kernel) fun t hf y => ?_
  rw [after1_10, outs1_10]
  obtain ⟨k, d, rfl⟩ : ∃ (k : Fin 512) (d : Fin 256), y = ix2 k d := ⟨y 0, y 1, eq_ix2 _⟩
  rw [place1_10]
  exact (pay1_g2 _ k d).trans (congrArg (· + unit) (H.rowB t k d))

theorem Entry1.g3 : (dat1 V c).arrAt 11 cfg1.N = fun j : S131072x256.Idx => x.g3 (j 0) (j 1) := by
  refine (dat1 V c).arrAt_eq_of_covers 11 _ (by decide +kernel) fun t hf y => ?_
  rw [after1_11, outs1_11]
  obtain ⟨k, d, rfl⟩ : ∃ (k : Fin 512) (d : Fin 256), y = ix2 k d := ⟨y 0, y 1, eq_ix2 _⟩
  rw [place1_11]
  exact (pay1_g3 _ _ k d).trans (congrArg₂ (· + ·) (H.rowUm t k d) (H.pv t k d))

theorem Entry1.g4 : (dat1 V c).arrAt 12 cfg1.N = fun j : S131072x256.Idx => x.g4 (j 0) (j 1) := by
  refine (dat1 V c).arrAt_eq_of_covers 12 _ (by decide +kernel) fun t hf y => ?_
  rw [after1_12, outs1_12]
  obtain ⟨k, d, rfl⟩ : ∃ (k : Fin 512) (d : Fin 256), y = ix2 k d := ⟨y 0, y 1, eq_ix2 _⟩
  rw [place1_12]
  exact (pay1_g4 _ k d).trans (congrArg (· + unit) (H.rowA t k d))

/-! The sums per node. -/

/-- A node's sum after the last block, column 0 of the user sums. -/
theorem Entry1.denU0_last (n : Fin 4096) (t : Fin cfg1.N) (ht : t.val + 1 = cfg1.N) :
    (outsAt1 V c t.val t.isLt).1 (ix2 n 0) = segSum x.us x.ex1 n := by
  have step : ∀ (p : Fin cfg1.N) (i : Fin 4096) (w : Fin 512 → EReal) (hw : ∀ k, w k = x.ex1 (edge1 p k)),
      (∑ k : Fin 512, k1_pay4 (F := Ideal) (iblk1 V c 0 p) (ix2 k i) * w k)
        = ∑ k : Fin 512, if x.us (edge1 p k) = i then x.ex1 (edge1 p k) else 0 := fun p i w hw =>
    sum_onehot_col (fun k => x.us (edge1 p k)) _ _ _ i (fun k => pay1_P _ _ (H.user p) k i) hw
  refine (Pipeline.eq_sum_fin_of_reset_step_apply_last (ι := Fin 4096) (M := EReal)
    (fun n h i => (outsAt1 V c n h).1 (ix2 i 0)) 256 (fun _ => 0)
    (fun p i => ∑ k : Fin 512, if x.us (edge1 p k) = i then x.ex1 (edge1 p k) else 0) (fun p h i => ?_) (fun p h i => ?_)
    (le_refl _) t ht n).trans ?_
  · show (outsAt1 V c p.val p.isLt).1 (ix2 i 0) = _
    rw [outs1_6_first V c p h, pay1_denU0, pay1_zeroU]
    exact congrArg (0 + ·) (step p i _ (H.ex1 p))
  · show (outsAt1 V c p.val p.isLt).1 (ix2 i 0) = _
    rw [outs1_6_step V c p h, pay1_denU0]
    exact congrArg (_ + ·) (step p i _ (H.ex1 p))
  · exact (zero_add _).trans (segSum_blocks x.us x.ex1 n)

/-- A node's sum after the last block, column 1 of the user sums. -/
theorem Entry1.denU1_last (n : Fin 4096) (t : Fin cfg1.N) (ht : t.val + 1 = cfg1.N) :
    (outsAt1 V c t.val t.isLt).1 (ix2 n 1) = segSum x.us x.ex3 n := by
  have step : ∀ (p : Fin cfg1.N) (i : Fin 4096) (w : Fin 512 → EReal) (hw : ∀ k, w k = x.ex3 (edge1 p k)),
      (∑ k : Fin 512, k1_pay4 (F := Ideal) (iblk1 V c 0 p) (ix2 k i) * w k)
        = ∑ k : Fin 512, if x.us (edge1 p k) = i then x.ex3 (edge1 p k) else 0 := fun p i w hw =>
    sum_onehot_col (fun k => x.us (edge1 p k)) _ _ _ i (fun k => pay1_P _ _ (H.user p) k i) hw
  refine (Pipeline.eq_sum_fin_of_reset_step_apply_last (ι := Fin 4096) (M := EReal)
    (fun n h i => (outsAt1 V c n h).1 (ix2 i 1)) 256 (fun _ => 0)
    (fun p i => ∑ k : Fin 512, if x.us (edge1 p k) = i then x.ex3 (edge1 p k) else 0) (fun p h i => ?_) (fun p h i => ?_)
    (le_refl _) t ht n).trans ?_
  · show (outsAt1 V c p.val p.isLt).1 (ix2 i 1) = _
    rw [outs1_6_first V c p h, pay1_denU1, pay1_zeroU]
    exact congrArg (0 + ·) (step p i _ (H.ex3 p))
  · show (outsAt1 V c p.val p.isLt).1 (ix2 i 1) = _
    rw [outs1_6_step V c p h, pay1_denU1]
    exact congrArg (_ + ·) (step p i _ (H.ex3 p))
  · exact (zero_add _).trans (segSum_blocks x.us x.ex3 n)

/-- A node's sum after the last block, column 0 of the item sums. -/
theorem Entry1.denI0_last (n : Fin 4096) (t : Fin cfg1.N) (ht : t.val + 1 = cfg1.N) :
    (outsAt1 V c t.val t.isLt).2.1 (ix2 n 0) = segSum x.is x.ex2 n := by
  have step : ∀ (p : Fin cfg1.N) (i : Fin 4096) (w : Fin 512 → EReal) (hw : ∀ k, w k = x.ex2 (edge1 p k)),
      (∑ k : Fin 512, k1_pay5 (F := Ideal) (iblk1 V c 1 p) (ix2 k i) * w k)
        = ∑ k : Fin 512, if x.is (edge1 p k) = i then x.ex2 (edge1 p k) else 0 := fun p i w hw =>
    sum_onehot_col (fun k => x.is (edge1 p k)) _ _ _ i (fun k => pay1_Q _ _ (H.item p) k i) hw
  refine (Pipeline.eq_sum_fin_of_reset_step_apply_last (ι := Fin 4096) (M := EReal)
    (fun n h i => (outsAt1 V c n h).2.1 (ix2 i 0)) 256 (fun _ => 0)
    (fun p i => ∑ k : Fin 512, if x.is (edge1 p k) = i then x.ex2 (edge1 p k) else 0) (fun p h i => ?_) (fun p h i => ?_)
    (le_refl _) t ht n).trans ?_
  · show (outsAt1 V c p.val p.isLt).2.1 (ix2 i 0) = _
    rw [outs1_7_first V c p h, pay1_denI0, pay1_zeroI]
    exact congrArg (0 + ·) (step p i _ (H.ex2 p))
  · show (outsAt1 V c p.val p.isLt).2.1 (ix2 i 0) = _
    rw [outs1_7_step V c p h, pay1_denI0]
    exact congrArg (_ + ·) (step p i _ (H.ex2 p))
  · exact (zero_add _).trans (segSum_blocks x.is x.ex2 n)

/-- A node's sum after the last block, column 1 of the item sums. -/
theorem Entry1.denI1_last (n : Fin 4096) (t : Fin cfg1.N) (ht : t.val + 1 = cfg1.N) :
    (outsAt1 V c t.val t.isLt).2.1 (ix2 n 1) = segSum x.is x.ex4 n := by
  have step : ∀ (p : Fin cfg1.N) (i : Fin 4096) (w : Fin 512 → EReal) (hw : ∀ k, w k = x.ex4 (edge1 p k)),
      (∑ k : Fin 512, k1_pay5 (F := Ideal) (iblk1 V c 1 p) (ix2 k i) * w k)
        = ∑ k : Fin 512, if x.is (edge1 p k) = i then x.ex4 (edge1 p k) else 0 := fun p i w hw =>
    sum_onehot_col (fun k => x.is (edge1 p k)) _ _ _ i (fun k => pay1_Q _ _ (H.item p) k i) hw
  refine (Pipeline.eq_sum_fin_of_reset_step_apply_last (ι := Fin 4096) (M := EReal)
    (fun n h i => (outsAt1 V c n h).2.1 (ix2 i 1)) 256 (fun _ => 0)
    (fun p i => ∑ k : Fin 512, if x.is (edge1 p k) = i then x.ex4 (edge1 p k) else 0) (fun p h i => ?_) (fun p h i => ?_)
    (le_refl _) t ht n).trans ?_
  · show (outsAt1 V c p.val p.isLt).2.1 (ix2 i 1) = _
    rw [outs1_7_first V c p h, pay1_denI1, pay1_zeroI]
    exact congrArg (0 + ·) (step p i _ (H.ex4 p))
  · show (outsAt1 V c p.val p.isLt).2.1 (ix2 i 1) = _
    rw [outs1_7_step V c p h, pay1_denI1]
    exact congrArg (_ + ·) (step p i _ (H.ex4 p))
  · exact (zero_add _).trans (segSum_blocks x.is x.ex4 n)

/-- The array of sums, column 0. -/
theorem Entry1.denU0 (n : Fin 4096) : (dat1 V c).arrAt 6 cfg1.N (ix2 n 0) = segSum x.us x.ex1 n := by
  rw [(dat1 V c).arrAt_eq_of_after_last 6 last1 (by decide +kernel) ((outsAt1 V c last1.val last1.isLt).1) fun j => ?_]
  · exact H.denU0_last n last1 rfl
  · rw [after1_6]
    blk_simp
    rfl

/-- The array of sums, column 1. -/
theorem Entry1.denU1 (n : Fin 4096) : (dat1 V c).arrAt 6 cfg1.N (ix2 n 1) = segSum x.us x.ex3 n := by
  rw [(dat1 V c).arrAt_eq_of_after_last 6 last1 (by decide +kernel) ((outsAt1 V c last1.val last1.isLt).1) fun j => ?_]
  · exact H.denU1_last n last1 rfl
  · rw [after1_6]
    blk_simp
    rfl

/-- The array of sums, column 0. -/
theorem Entry1.denI0 (n : Fin 4096) : (dat1 V c).arrAt 7 cfg1.N (ix2 n 0) = segSum x.is x.ex2 n := by
  rw [(dat1 V c).arrAt_eq_of_after_last 7 last1 (by decide +kernel) ((outsAt1 V c last1.val last1.isLt).2.1) fun j => ?_]
  · exact H.denI0_last n last1 rfl
  · rw [after1_7]
    blk_simp
    rfl

/-- The array of sums, column 1. -/
theorem Entry1.denI1 (n : Fin 4096) : (dat1 V c).arrAt 7 cfg1.N (ix2 n 1) = segSum x.is x.ex4 n := by
  rw [(dat1 V c).arrAt_eq_of_after_last 7 last1 (by decide +kernel) ((outsAt1 V c last1.val last1.isLt).2.1) fun j => ?_]
  · exact H.denI1_last n last1 rfl
  · rw [after1_7]
    blk_simp
    rfl

end Cert.KernelIdeal.Gat
end
-- ==== Proof.Pay2.lean ====
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Gat

open Idealize.ShloMosaic Cert.KernelIdeal Cert.KernelIdeal.Gen Cert.Gat

/-! One block of the second pass, each value at an index. -/

section
variable (v0 v7 : Vec Ideal S512x1 .i32) (v14 v17 : Vec Ideal S4096x128 .f32) (v20 : Vec Ideal S512x4 .f32)
  (a b : Fin 512 → Fin 4096)
  (ha : ∀ k, v0 (ix2 k 0) = BitVec.ofNat 32 (a k).val) (hb : ∀ k, v7 (ix2 k 0) = BitVec.ofNat 32 (b k).val)

include ha in
theorem pay2_P (k : Fin 512) (n : Fin 4096) :
    k2_pay5 (F := Ideal) v0 (ix2 k n) = if a k = n then (1 : EReal) else 0 := by
  pointwise [k2_pay5]
  rw [ha, onehot_word]

include hb in
theorem pay2_Q (k : Fin 512) (n : Fin 4096) :
    k2_pay6 (F := Ideal) v7 (ix2 k n) = if b k = n then (1 : EReal) else 0 := by
  pointwise [k2_pay6]
  rw [hb, onehot_word]

include ha in
theorem pay2_DU (k : Fin 512) (j : Fin 128) :
    k2_pay7 (F := Ideal) v0 v14 (ix2 k j) = v14 (ix2 (a k) j) := by
  pointwise [k2_pay7]
  simp only [pay2_P v0 a ha]
  exact sum_onehot (a k) fun x => v14 (ix2 x j)

include hb in
theorem pay2_DI (k : Fin 512) (j : Fin 128) :
    k2_pay8 (F := Ideal) v7 v17 (ix2 k j) = v17 (ix2 (b k) j) := by
  pointwise [k2_pay8]
  simp only [pay2_Q v7 b hb]
  exact sum_onehot (b k) fun x => v17 (ix2 x j)

include ha in
/-- The long-term weight of an edge at its user. -/
theorem pay2_alpha (k : Fin 512) :
    k2_pay10 (F := Ideal) v0 v14 v20 (ix2 k 0) = Ideal.div (v20 (ix2 k 0)) (v14 (ix2 (a k) 0) + guard) := by
  rw [← pay2_DU v0 v14 a ha k 0]
  pointwise [k2_pay10, k2_pay9]

include hb in
/-- The long-term weight of an edge at its item. -/
theorem pay2_beta (k : Fin 512) :
    k2_pay11 (F := Ideal) v7 v17 v20 (ix2 k 0) = Ideal.div (v20 (ix2 k 1)) (v17 (ix2 (b k) 0) + guard) := by
  rw [← pay2_DI v7 v17 b hb k 0]
  pointwise [k2_pay11, k2_pay9]

include ha in
/-- The short-term weight of an edge at its user. -/
theorem pay2_alps (k : Fin 512) :
    k2_pay12 (F := Ideal) v0 v14 v20 (ix2 k 0) = Ideal.div (v20 (ix2 k 2)) (v14 (ix2 (a k) 1) + guard) := by
  rw [← pay2_DU v0 v14 a ha k 1]
  pointwise [k2_pay12, k2_pay9]

include hb in
/-- The short-term weight of an edge at its item. -/
theorem pay2_bets (k : Fin 512) :
    k2_pay13 (F := Ideal) v7 v17 v20 (ix2 k 0) = Ideal.div (v20 (ix2 k 3)) (v17 (ix2 (b k) 1) + guard) := by
  rw [← pay2_DI v7 v17 b hb k 1]
  pointwise [k2_pay13, k2_pay9]

end

theorem pay2_zeroU (n : Fin 4096) (j : Fin 512) : k2_pay1 (F := Ideal) (ix2 n j) = (0 : EReal) := by
  pointwise [k2_pay1]

theorem pay2_zeroI (n : Fin 4096) (j : Fin 512) : k2_pay2 (F := Ideal) (ix2 n j) = (0 : EReal) := by
  pointwise [k2_pay2]

section
variable (P : Vec Ideal S512x4096 .f32) (w w' : Vec Ideal S512x1 .f32) (g g' : Vec Ideal S512x256 .f32)
  (acc : Vec Ideal S4096x512 .f32)

/-- A block's step of the user results, left half (long term) and right half (short term). -/
theorem pay2_outU0 (n : Fin 4096) (d : Fin 256) :
    k2_pay3 (F := Ideal) P w w' g g' acc (ix2 n ⟨d.val, by omega⟩)
      = acc (ix2 n ⟨d.val, by omega⟩) + ∑ k : Fin 512, P (ix2 k n) * (w (ix2 k 0) * g (ix2 k d)) := by
  have h : d.val < 256 := d.isLt
  pointwise [k2_pay3]

theorem pay2_outU1 (n : Fin 4096) (d : Fin 256) :
    k2_pay3 (F := Ideal) P w w' g g' acc (ix2 n ⟨256 + d.val, by omega⟩)
      = acc (ix2 n ⟨256 + d.val, by omega⟩) + ∑ k : Fin 512, P (ix2 k n) * (w' (ix2 k 0) * g' (ix2 k d)) := by
  have h : ¬ 256 + d.val < 256 := by omega
  pointwise [k2_pay3]

theorem pay2_outI0 (n : Fin 4096) (d : Fin 256) :
    k2_pay4 (F := Ideal) P w w' g g' acc (ix2 n ⟨d.val, by omega⟩)
      = acc (ix2 n ⟨d.val, by omega⟩) + ∑ k : Fin 512, P (ix2 k n) * (w (ix2 k 0) * g (ix2 k d)) := by
  have h : d.val < 256 := d.isLt
  pointwise [k2_pay4]

theorem pay2_outI1 (n : Fin 4096) (d : Fin 256) :
    k2_pay4 (F := Ideal) P w w' g g' acc (ix2 n ⟨256 + d.val, by omega⟩)
      = acc (ix2 n ⟨256 + d.val, by omega⟩) + ∑ k : Fin 512, P (ix2 k n) * (w' (ix2 k 0) * g' (ix2 k d)) := by
  have h : ¬ 256 + d.val < 256 := by omega
  pointwise [k2_pay4]

end

end Cert.KernelIdeal.Gat
end
-- ==== Proof.Block2.lean ====
module

public import proofs.«01_k».proof.Proof.Gen.KernelIdeal.Frame
public import proofs.«01_k».proof.Proof.Pay2
public import Idealize.ShloMosaic.Lib.Pipeline.ValueKit
public import Idealize.ShloMosaic.Lib.Pipeline.Covers

@[expose] public section

set_option maxRecDepth 16384

noncomputable section

namespace Cert.KernelIdeal.Gat

open Idealize.ShloMosaic Idealize.ShloMosaic.TcCoe Cert.KernelIdeal Cert.KernelIdeal.Gen Cert.Gat

variable (V : (c : Dev nD) → (b : Ref sig .tc) → Buf (Elt Ideal) ((c : Thread nD τ).loc b)) (c : Dev nD)

/-! The second pass: its blocks as rows of its arrays, and what a grid point leaves in each output block. -/

/-- The edge at lane `k` of block `t`. -/
abbrev edge2 (t : Fin cfg2.N) (k : Fin 512) : Fin 131072 :=
  ⟨512 * t.val + k.val, by have := t.isLt; have h : cfg2.N = 256 := rfl; omega⟩

theorem index2_0 : ∀ t : Fin cfg2.N, win2_0.index t (0 : Fin 2) = t.val ∧ win2_0.index t (1 : Fin 2) = 0 := by decide +kernel
theorem index2_1 : ∀ t : Fin cfg2.N, win2_1.index t (0 : Fin 2) = t.val ∧ win2_1.index t (1 : Fin 2) = 0 := by decide +kernel
theorem index2_2 : ∀ t : Fin cfg2.N, win2_2.index t (0 : Fin 2) = t.val ∧ win2_2.index t (1 : Fin 2) = 0 := by decide +kernel
theorem index2_3 : ∀ t : Fin cfg2.N, win2_3.index t (0 : Fin 2) = t.val ∧ win2_3.index t (1 : Fin 2) = 0 := by decide +kernel
theorem index2_4 : ∀ t : Fin cfg2.N, win2_4.index t (0 : Fin 2) = t.val ∧ win2_4.index t (1 : Fin 2) = 0 := by decide +kernel
theorem index2_5 : ∀ t : Fin cfg2.N, win2_5.index t (0 : Fin 2) = t.val ∧ win2_5.index t (1 : Fin 2) = 0 := by decide +kernel
theorem index2_6 : ∀ t : Fin cfg2.N, win2_6.index t (0 : Fin 2) = t.val ∧ win2_6.index t (1 : Fin 2) = 0 := by decide +kernel
theorem index2_7 : ∀ t : Fin cfg2.N, win2_7.index t (0 : Fin 2) = 0 ∧ win2_7.index t (1 : Fin 2) = 0 := by decide +kernel
theorem index2_8 : ∀ t : Fin cfg2.N, win2_8.index t (0 : Fin 2) = 0 ∧ win2_8.index t (1 : Fin 2) = 0 := by decide +kernel

theorem read2_0 (t : Fin cfg2.N) (k : Fin 512) :
    iblk2 V c 0 t (ix2 k 0) = V c main_v2 (ix2 (edge2 t k) 0) := by
  blk_ext! [iblk2, edge2, (index2_0 t).1, (index2_0 t).2]

theorem read2_1 (t : Fin cfg2.N) (k : Fin 512) :
    iblk2 V c 1 t (ix2 k 0) = V c main_v5 (ix2 (edge2 t k) 0) := by
  blk_ext! [iblk2, edge2, (index2_1 t).1, (index2_1 t).2]

theorem read2_2 (t : Fin cfg2.N) (k : Fin 512) (d : Fin 4) :
    iblk2 V c 2 t (ix2 k d) = V c main_v13_2 (ix2 (edge2 t k) d) := by
  blk_ext! [iblk2, edge2, (index2_2 t).1, (index2_2 t).2]

theorem read2_3 (t : Fin cfg2.N) (k : Fin 512) (d : Fin 256) :
    iblk2 V c 3 t (ix2 k d) = V c main_v13_3 (ix2 (edge2 t k) d) := by
  blk_ext! [iblk2, edge2, (index2_3 t).1, (index2_3 t).2]

theorem read2_4 (t : Fin cfg2.N) (k : Fin 512) (d : Fin 256) :
    iblk2 V c 4 t (ix2 k d) = V c main_v13_4 (ix2 (edge2 t k) d) := by
  blk_ext! [iblk2, edge2, (index2_4 t).1, (index2_4 t).2]

theorem read2_5 (t : Fin cfg2.N) (k : Fin 512) (d : Fin 256) :
    iblk2 V c 5 t (ix2 k d) = V c main_v13_5 (ix2 (edge2 t k) d) := by
  blk_ext! [iblk2, edge2, (index2_5 t).1, (index2_5 t).2]

theorem read2_6 (t : Fin cfg2.N) (k : Fin 512) (d : Fin 256) :
    iblk2 V c 6 t (ix2 k d) = V c main_v13_6 (ix2 (edge2 t k) d) := by
  blk_ext! [iblk2, edge2, (index2_6 t).1, (index2_6 t).2]

theorem read2_7 (t : Fin cfg2.N) : iblk2 V c 7 t = V c main_v13_0 := by
  funext y
  blk_ext! [iblk2, (index2_7 t).1, (index2_7 t).2]

theorem read2_8 (t : Fin cfg2.N) : iblk2 V c 8 t = V c main_v13_1 := by
  funext y
  blk_ext! [iblk2, (index2_8 t).1, (index2_8 t).2]

theorem outs2_9_first (t : Fin cfg2.N) (h : t.val % 256 = 0) :
    (outsAt2 V c t.val t.isLt).1 = k2_pay3 (F := Ideal) (k2_pay5 (F := Ideal) (iblk2 V c 0 t)) (k2_pay10 (F := Ideal) (iblk2 V c 0 t) (iblk2 V c 7 t) (iblk2 V c 2 t)) (k2_pay12 (F := Ideal) (iblk2 V c 0 t) (iblk2 V c 7 t) (iblk2 V c 2 t)) (iblk2 V c 3 t) (iblk2 V c 4 t) (k2_pay1 (F := Ideal)) := by
  rw [outsAt2_A V c t h]
  dsimp only
  frame_out

theorem outs2_9_step (t : Fin cfg2.N) (h : ¬t.val % 256 = 0) :
    (outsAt2 V c t.val t.isLt).1 = k2_pay3 (F := Ideal) (k2_pay5 (F := Ideal) (iblk2 V c 0 t)) (k2_pay10 (F := Ideal) (iblk2 V c 0 t) (iblk2 V c 7 t) (iblk2 V c 2 t)) (k2_pay12 (F := Ideal) (iblk2 V c 0 t) (iblk2 V c 7 t) (iblk2 V c 2 t)) (iblk2 V c 3 t) (iblk2 V c 4 t) (outsAt2 V c (t.val - 1) (Nat.lt_of_le_of_lt (Nat.sub_le _ _) t.isLt)).1 := by
  rw [outsAt2_B V c t h]
  dsimp only
  frame_out

theorem outs2_10_first (t : Fin cfg2.N) (h : t.val % 256 = 0) :
    (outsAt2 V c t.val t.isLt).2 = k2_pay4 (F := Ideal) (k2_pay6 (F := Ideal) (iblk2 V c 1 t)) (k2_pay11 (F := Ideal) (iblk2 V c 1 t) (iblk2 V c 8 t) (iblk2 V c 2 t)) (k2_pay13 (F := Ideal) (iblk2 V c 1 t) (iblk2 V c 8 t) (iblk2 V c 2 t)) (iblk2 V c 5 t) (iblk2 V c 6 t) (k2_pay2 (F := Ideal)) := by
  rw [outsAt2_A V c t h]
  dsimp only
  frame_out

theorem outs2_10_step (t : Fin cfg2.N) (h : ¬t.val % 256 = 0) :
    (outsAt2 V c t.val t.isLt).2 = k2_pay4 (F := Ideal) (k2_pay6 (F := Ideal) (iblk2 V c 1 t)) (k2_pay11 (F := Ideal) (iblk2 V c 1 t) (iblk2 V c 8 t) (iblk2 V c 2 t)) (k2_pay13 (F := Ideal) (iblk2 V c 1 t) (iblk2 V c 8 t) (iblk2 V c 2 t)) (iblk2 V c 5 t) (iblk2 V c 6 t) (outsAt2 V c (t.val - 1) (Nat.lt_of_le_of_lt (Nat.sub_le _ _) t.isLt)).2 := by
  rw [outsAt2_B V c t h]
  dsimp only
  frame_out

end Cert.KernelIdeal.Gat
end
-- ==== Proof.PassB.lean ====
module

public import proofs.«01_k».proof.Proof.Block2

@[expose] public section

set_option maxRecDepth 16384

noncomputable section

namespace Cert.KernelIdeal.Gat

open Idealize.ShloMosaic Idealize.ShloMosaic.TcCoe Cert.KernelIdeal Cert.KernelIdeal.Gen Cert.Gat

variable (V : (c : Dev nD) → (b : Ref sig .tc) → Buf (Elt Ideal) ((c : Thread nD τ).loc b)) (c : Dev nD)

/-! The second pass: its arrays after the run. -/

/-- What the second pass finds: index columns, the per-edge arrays of the first pass, and the sums per node. -/
structure Entry2 (x : Inp) : Prop where
  hu : ∀ e : Fin 131072, V c main_v2 (ix2 e 0) = BitVec.ofNat 32 (x.us e).val
  hi : ∀ e : Fin 131072, V c main_v5 (ix2 e 0) = BitVec.ofNat 32 (x.is e).val
  hex : V c main_v13_2
    = fun j : S131072x4.Idx => (![x.ex1 (j 0), x.ex2 (j 0), x.ex3 (j 0), x.ex4 (j 0)] : Fin 4 → EReal) (j 1)
  hg1 : V c main_v13_3 = fun j : S131072x256.Idx => x.g1 (j 0) (j 1)
  hg2 : V c main_v13_4 = fun j : S131072x256.Idx => x.g2 (j 0) (j 1)
  hg3 : V c main_v13_5 = fun j : S131072x256.Idx => x.g3 (j 0) (j 1)
  hg4 : V c main_v13_6 = fun j : S131072x256.Idx => x.g4 (j 0) (j 1)
  hU0 : ∀ n : Fin 4096, V c main_v13_0 (ix2 n 0) = segSum x.us x.ex1 n
  hU1 : ∀ n : Fin 4096, V c main_v13_0 (ix2 n 1) = segSum x.us x.ex3 n
  hI0 : ∀ n : Fin 4096, V c main_v13_1 (ix2 n 0) = segSum x.is x.ex2 n
  hI1 : ∀ n : Fin 4096, V c main_v13_1 (ix2 n 1) = segSum x.is x.ex4 n

/-- The last grid point. -/
abbrev last2 : Fin cfg2.N := ⟨255, by decide⟩

variable {V c} {x : Inp} (H : Entry2 V c x)
include H

theorem Entry2.user (t : Fin cfg2.N) (k : Fin 512) :
    iblk2 V c 0 t (ix2 k 0) = BitVec.ofNat 32 (x.us (edge2 t k)).val := (read2_0 V c t k).trans (H.hu _)

theorem Entry2.item (t : Fin cfg2.N) (k : Fin 512) :
    iblk2 V c 1 t (ix2 k 0) = BitVec.ofNat 32 (x.is (edge2 t k)).val := (read2_1 V c t k).trans (H.hi _)

theorem Entry2.ex1 (t : Fin cfg2.N) (k : Fin 512) : iblk2 V c 2 t (ix2 k 0) = x.ex1 (edge2 t k) := by
  rw [read2_2, H.hex]
  rfl

/-- The weight of an edge, column 0. -/
theorem Entry2.alpha (t : Fin cfg2.N) (k : Fin 512) :
    k2_pay10 (F := Ideal) (iblk2 V c 0 t) (iblk2 V c 7 t) (iblk2 V c 2 t) (ix2 k 0)
      = weight x.us x.ex1 (edge2 t k) := by
  rw [pay2_alpha _ _ _ _ (H.user t), H.ex1, read2_7, H.hU0]
  rfl

theorem Entry2.ex2 (t : Fin cfg2.N) (k : Fin 512) : iblk2 V c 2 t (ix2 k 1) = x.ex2 (edge2 t k) := by
  rw [read2_2, H.hex]
  rfl

/-- The weight of an edge, column 1. -/
theorem Entry2.beta (t : Fin cfg2.N) (k : Fin 512) :
    k2_pay11 (F := Ideal) (iblk2 V c 1 t) (iblk2 V c 8 t) (iblk2 V c 2 t) (ix2 k 0)
      = weight x.is x.ex2 (edge2 t k) := by
  rw [pay2_beta _ _ _ _ (H.item t), H.ex2, read2_8, H.hI0]
  rfl

theorem Entry2.ex3 (t : Fin cfg2.N) (k : Fin 512) : iblk2 V c 2 t (ix2 k 2) = x.ex3 (edge2 t k) := by
  rw [read2_2, H.hex]
  rfl

/-- The weight of an edge, column 2. -/
theorem Entry2.alps (t : Fin cfg2.N) (k : Fin 512) :
    k2_pay12 (F := Ideal) (iblk2 V c 0 t) (iblk2 V c 7 t) (iblk2 V c 2 t) (ix2 k 0)
      = weight x.us x.ex3 (edge2 t k) := by
  rw [pay2_alps _ _ _ _ (H.user t), H.ex3, read2_7, H.hU1]
  rfl

theorem Entry2.ex4 (t : Fin cfg2.N) (k : Fin 512) : iblk2 V c 2 t (ix2 k 3) = x.ex4 (edge2 t k) := by
  rw [read2_2, H.hex]
  rfl

/-- The weight of an edge, column 3. -/
theorem Entry2.bets (t : Fin cfg2.N) (k : Fin 512) :
    k2_pay13 (F := Ideal) (iblk2 V c 1 t) (iblk2 V c 8 t) (iblk2 V c 2 t) (ix2 k 0)
      = weight x.is x.ex4 (edge2 t k) := by
  rw [pay2_bets _ _ _ _ (H.item t), H.ex4, read2_8, H.hI1]
  rfl

theorem Entry2.g1 (t : Fin cfg2.N) (k : Fin 512) (d : Fin 256) : iblk2 V c 3 t (ix2 k d) = x.g1 (edge2 t k) d := by
  rw [read2_3, H.hg1]
  rfl

theorem Entry2.g2 (t : Fin cfg2.N) (k : Fin 512) (d : Fin 256) : iblk2 V c 4 t (ix2 k d) = x.g2 (edge2 t k) d := by
  rw [read2_4, H.hg2]
  rfl

theorem Entry2.g3 (t : Fin cfg2.N) (k : Fin 512) (d : Fin 256) : iblk2 V c 5 t (ix2 k d) = x.g3 (edge2 t k) d := by
  rw [read2_5, H.hg3]
  rfl

theorem Entry2.g4 (t : Fin cfg2.N) (k : Fin 512) (d : Fin 256) : iblk2 V c 6 t (ix2 k d) = x.g4 (edge2 t k) d := by
  rw [read2_6, H.hg4]
  rfl

/-- Result `hLu` after the last block. -/
theorem Entry2.hLu_last (n : Fin 4096) (d : Fin 256) (t : Fin cfg2.N) (ht : t.val + 1 = cfg2.N) :
    (outsAt2 V c t.val t.isLt).1 (ix2 n ⟨d.val, by omega⟩) = x.hLu n d := by
  have step : ∀ (p : Fin cfg2.N) (i : Fin 4096) (w : Fin 512 → EReal)
      (hw : ∀ k, w k = weight x.us x.ex1 (edge2 p k) * x.g1 (edge2 p k) d),
      (∑ k : Fin 512, k2_pay5 (F := Ideal) (iblk2 V c 0 p) (ix2 k i) * w k)
        = ∑ k : Fin 512, if x.us (edge2 p k) = i then weight x.us x.ex1 (edge2 p k) * x.g1 (edge2 p k) d else 0 := fun p i w hw =>
    sum_onehot_col (fun k => x.us (edge2 p k)) _ _ _ i (fun k => pay2_P _ _ (H.user p) k i) hw
  have summand : ∀ (p : Fin cfg2.N) (k : Fin 512), _ = weight x.us x.ex1 (edge2 p k) * x.g1 (edge2 p k) d := fun p k =>
    congrArg₂ (· * ·) (H.alpha p k) (H.g1 p k d)
  refine (Pipeline.eq_sum_fin_of_reset_step_apply_last (ι := Fin 4096) (M := EReal)
    (fun n h i => (outsAt2 V c n h).1 (ix2 i ⟨d.val, by omega⟩)) 256 (fun _ => 0)
    (fun p i => ∑ k : Fin 512, if x.us (edge2 p k) = i then weight x.us x.ex1 (edge2 p k) * x.g1 (edge2 p k) d else 0)
    (fun p h i => ?_) (fun p h i => ?_) (le_refl _) t ht n).trans ?_
  · show (outsAt2 V c p.val p.isLt).1 (ix2 i ⟨d.val, by omega⟩) = _
    rw [outs2_9_first V c p h, pay2_outU0, pay2_zeroU]
    exact congrArg (0 + ·) (step p i _ (summand p))
  · show (outsAt2 V c p.val p.isLt).1 (ix2 i ⟨d.val, by omega⟩) = _
    rw [outs2_9_step V c p h, pay2_outU0]
    exact congrArg (_ + ·) (step p i _ (summand p))
  · exact (zero_add _).trans (segSum_blocks x.us (fun e => weight x.us x.ex1 e * x.g1 e d) n)

/-- Result `hLu` in its array. -/
theorem Entry2.hLu (n : Fin 4096) (d : Fin 256) :
    (dat2 V c).arrAt 9 cfg2.N (ix2 n ⟨d.val, by omega⟩) = x.hLu n d := by
  rw [(dat2 V c).arrAt_eq_of_after_last 9 last2 (by decide +kernel) ((outsAt2 V c last2.val last2.isLt).1) fun j => ?_]
  · exact H.hLu_last n d last2 rfl
  · rw [after2_9]
    blk_simp
    rfl

/-- Result `hSu` after the last block. -/
theorem Entry2.hSu_last (n : Fin 4096) (d : Fin 256) (t : Fin cfg2.N) (ht : t.val + 1 = cfg2.N) :
    (outsAt2 V c t.val t.isLt).1 (ix2 n ⟨256 + d.val, by omega⟩) = x.hSu n d := by
  have step : ∀ (p : Fin cfg2.N) (i : Fin 4096) (w : Fin 512 → EReal)
      (hw : ∀ k, w k = weight x.us x.ex3 (edge2 p k) * x.g2 (edge2 p k) d),
      (∑ k : Fin 512, k2_pay5 (F := Ideal) (iblk2 V c 0 p) (ix2 k i) * w k)
        = ∑ k : Fin 512, if x.us (edge2 p k) = i then weight x.us x.ex3 (edge2 p k) * x.g2 (edge2 p k) d else 0 := fun p i w hw =>
    sum_onehot_col (fun k => x.us (edge2 p k)) _ _ _ i (fun k => pay2_P _ _ (H.user p) k i) hw
  have summand : ∀ (p : Fin cfg2.N) (k : Fin 512), _ = weight x.us x.ex3 (edge2 p k) * x.g2 (edge2 p k) d := fun p k =>
    congrArg₂ (· * ·) (H.alps p k) (H.g2 p k d)
  refine (Pipeline.eq_sum_fin_of_reset_step_apply_last (ι := Fin 4096) (M := EReal)
    (fun n h i => (outsAt2 V c n h).1 (ix2 i ⟨256 + d.val, by omega⟩)) 256 (fun _ => 0)
    (fun p i => ∑ k : Fin 512, if x.us (edge2 p k) = i then weight x.us x.ex3 (edge2 p k) * x.g2 (edge2 p k) d else 0)
    (fun p h i => ?_) (fun p h i => ?_) (le_refl _) t ht n).trans ?_
  · show (outsAt2 V c p.val p.isLt).1 (ix2 i ⟨256 + d.val, by omega⟩) = _
    rw [outs2_9_first V c p h, pay2_outU1, pay2_zeroU]
    exact congrArg (0 + ·) (step p i _ (summand p))
  · show (outsAt2 V c p.val p.isLt).1 (ix2 i ⟨256 + d.val, by omega⟩) = _
    rw [outs2_9_step V c p h, pay2_outU1]
    exact congrArg (_ + ·) (step p i _ (summand p))
  · exact (zero_add _).trans (segSum_blocks x.us (fun e => weight x.us x.ex3 e * x.g2 e d) n)

/-- Result `hSu` in its array. -/
theorem Entry2.hSu (n : Fin 4096) (d : Fin 256) :
    (dat2 V c).arrAt 9 cfg2.N (ix2 n ⟨256 + d.val, by omega⟩) = x.hSu n d := by
  rw [(dat2 V c).arrAt_eq_of_after_last 9 last2 (by decide +kernel) ((outsAt2 V c last2.val last2.isLt).1) fun j => ?_]
  · exact H.hSu_last n d last2 rfl
  · rw [after2_9]
    blk_simp
    rfl

/-- Result `hLi` after the last block. -/
theorem Entry2.hLi_last (n : Fin 4096) (d : Fin 256) (t : Fin cfg2.N) (ht : t.val + 1 = cfg2.N) :
    (outsAt2 V c t.val t.isLt).2 (ix2 n ⟨d.val, by omega⟩) = x.hLi n d := by
  have step : ∀ (p : Fin cfg2.N) (i : Fin 4096) (w : Fin 512 → EReal)
      (hw : ∀ k, w k = weight x.is x.ex2 (edge2 p k) * x.g3 (edge2 p k) d),
      (∑ k : Fin 512, k2_pay6 (F := Ideal) (iblk2 V c 1 p) (ix2 k i) * w k)
        = ∑ k : Fin 512, if x.is (edge2 p k) = i then weight x.is x.ex2 (edge2 p k) * x.g3 (edge2 p k) d else 0 := fun p i w hw =>
    sum_onehot_col (fun k => x.is (edge2 p k)) _ _ _ i (fun k => pay2_Q _ _ (H.item p) k i) hw
  have summand : ∀ (p : Fin cfg2.N) (k : Fin 512), _ = weight x.is x.ex2 (edge2 p k) * x.g3 (edge2 p k) d := fun p k =>
    congrArg₂ (· * ·) (H.beta p k) (H.g3 p k d)
  refine (Pipeline.eq_sum_fin_of_reset_step_apply_last (ι := Fin 4096) (M := EReal)
    (fun n h i => (outsAt2 V c n h).2 (ix2 i ⟨d.val, by omega⟩)) 256 (fun _ => 0)
    (fun p i => ∑ k : Fin 512, if x.is (edge2 p k) = i then weight x.is x.ex2 (edge2 p k) * x.g3 (edge2 p k) d else 0)
    (fun p h i => ?_) (fun p h i => ?_) (le_refl _) t ht n).trans ?_
  · show (outsAt2 V c p.val p.isLt).2 (ix2 i ⟨d.val, by omega⟩) = _
    rw [outs2_10_first V c p h, pay2_outI0, pay2_zeroI]
    exact congrArg (0 + ·) (step p i _ (summand p))
  · show (outsAt2 V c p.val p.isLt).2 (ix2 i ⟨d.val, by omega⟩) = _
    rw [outs2_10_step V c p h, pay2_outI0]
    exact congrArg (_ + ·) (step p i _ (summand p))
  · exact (zero_add _).trans (segSum_blocks x.is (fun e => weight x.is x.ex2 e * x.g3 e d) n)

/-- Result `hLi` in its array. -/
theorem Entry2.hLi (n : Fin 4096) (d : Fin 256) :
    (dat2 V c).arrAt 10 cfg2.N (ix2 n ⟨d.val, by omega⟩) = x.hLi n d := by
  rw [(dat2 V c).arrAt_eq_of_after_last 10 last2 (by decide +kernel) ((outsAt2 V c last2.val last2.isLt).2) fun j => ?_]
  · exact H.hLi_last n d last2 rfl
  · rw [after2_10]
    blk_simp
    rfl

/-- Result `hSi` after the last block. -/
theorem Entry2.hSi_last (n : Fin 4096) (d : Fin 256) (t : Fin cfg2.N) (ht : t.val + 1 = cfg2.N) :
    (outsAt2 V c t.val t.isLt).2 (ix2 n ⟨256 + d.val, by omega⟩) = x.hSi n d := by
  have step : ∀ (p : Fin cfg2.N) (i : Fin 4096) (w : Fin 512 → EReal)
      (hw : ∀ k, w k = weight x.is x.ex4 (edge2 p k) * x.g4 (edge2 p k) d),
      (∑ k : Fin 512, k2_pay6 (F := Ideal) (iblk2 V c 1 p) (ix2 k i) * w k)
        = ∑ k : Fin 512, if x.is (edge2 p k) = i then weight x.is x.ex4 (edge2 p k) * x.g4 (edge2 p k) d else 0 := fun p i w hw =>
    sum_onehot_col (fun k => x.is (edge2 p k)) _ _ _ i (fun k => pay2_Q _ _ (H.item p) k i) hw
  have summand : ∀ (p : Fin cfg2.N) (k : Fin 512), _ = weight x.is x.ex4 (edge2 p k) * x.g4 (edge2 p k) d := fun p k =>
    congrArg₂ (· * ·) (H.bets p k) (H.g4 p k d)
  refine (Pipeline.eq_sum_fin_of_reset_step_apply_last (ι := Fin 4096) (M := EReal)
    (fun n h i => (outsAt2 V c n h).2 (ix2 i ⟨256 + d.val, by omega⟩)) 256 (fun _ => 0)
    (fun p i => ∑ k : Fin 512, if x.is (edge2 p k) = i then weight x.is x.ex4 (edge2 p k) * x.g4 (edge2 p k) d else 0)
    (fun p h i => ?_) (fun p h i => ?_) (le_refl _) t ht n).trans ?_
  · show (outsAt2 V c p.val p.isLt).2 (ix2 i ⟨256 + d.val, by omega⟩) = _
    rw [outs2_10_first V c p h, pay2_outI1, pay2_zeroI]
    exact congrArg (0 + ·) (step p i _ (summand p))
  · show (outsAt2 V c p.val p.isLt).2 (ix2 i ⟨256 + d.val, by omega⟩) = _
    rw [outs2_10_step V c p h, pay2_outI1]
    exact congrArg (_ + ·) (step p i _ (summand p))
  · exact (zero_add _).trans (segSum_blocks x.is (fun e => weight x.is x.ex4 e * x.g4 e d) n)

/-- Result `hSi` in its array. -/
theorem Entry2.hSi (n : Fin 4096) (d : Fin 256) :
    (dat2 V c).arrAt 10 cfg2.N (ix2 n ⟨256 + d.val, by omega⟩) = x.hSi n d := by
  rw [(dat2 V c).arrAt_eq_of_after_last 10 last2 (by decide +kernel) ((outsAt2 V c last2.val last2.isLt).2) fun j => ?_]
  · exact H.hSi_last n d last2 rfl
  · rw [after2_10]
    blk_simp
    rfl

end Cert.KernelIdeal.Gat
end
-- ==== Proof.Chain.lean ====
module

public import proofs.«01_k».proof.Proof.Prologue
public import proofs.«01_k».proof.Proof.PassA
public import proofs.«01_k».proof.Proof.PassB

@[expose] public section

set_option maxRecDepth 16384

noncomputable section

namespace Cert.KernelIdeal.Gat

open Idealize.ShloMosaic Idealize.ShloMosaic.TcCoe Cert.KernelIdeal Cert.KernelIdeal.Gen Cert.Gat

variable (m : (ℓ : Loc nD τ sig) → Buf (Elt Ideal) ℓ) (ρ : Dev nD → PrngReg) (c : Dev nD)

/-! The three regions chained: from the launch memory to the four results. -/

/-- The launch memory holds the inputs `x`. -/
structure Launch (x : Inp) : Prop where
  hU : m ((c : Thread nD τ).loc main_arg0) = x.U
  hI : m ((c : Thread nD τ).loc main_arg1) = x.I
  hpV : m ((c : Thread nD τ).loc main_arg3) = x.pV
  hpK : m ((c : Thread nD τ).loc main_arg4) = x.pK
  hW1 : m ((c : Thread nD τ).loc main_arg8) = x.W1
  hW2 : m ((c : Thread nD τ).loc main_arg9) = x.W2
  hW1b : m ((c : Thread nD τ).loc main_arg10) = x.W1b
  hW2b : m ((c : Thread nD τ).loc main_arg11) = x.W2b
  hW3 : m ((c : Thread nD τ).loc main_arg12) = x.W3
  hW4 : m ((c : Thread nD τ).loc main_arg13) = x.W4
  hus : ∀ e : Fin 131072, m ((c : Thread nD τ).loc main_arg2) (ix2 0 e) = BitVec.ofNat 32 (x.us e).val
  his : ∀ e : Fin 131072, m ((c : Thread nD τ).loc main_arg2) (ix2 1 e) = BitVec.ofNat 32 (x.is e).val
  hlu : ∀ r : Fin 4096, m ((c : Thread nD τ).loc main_arg6) (ix2 1 r) = BitVec.ofNat 32 (x.lu r).val
  hli : ∀ r : Fin 4096, m ((c : Thread nD τ).loc main_arg7) (ix2 1 r) = BitVec.ofNat 32 (x.li r).val

/-- The index columns the host slices and reshapes before the first region. -/
theorem entry_v2 (e : Fin 131072) : V1 m ρ c main_v2 (ix2 e 0) = m ((c : Thread nD τ).loc main_arg2) (ix2 0 e) := by
  show StableHlo.after hostOps0 (W0 m ρ c) (Proc.devRef .tc main_v2) (ix2 e 0) = _
  entry_read
  pointwise

theorem entry_v5 (e : Fin 131072) : V1 m ρ c main_v5 (ix2 e 0) = m ((c : Thread nD τ).loc main_arg2) (ix2 1 e) := by
  show StableHlo.after hostOps0 (W0 m ρ c) (Proc.devRef .tc main_v5) (ix2 e 0) = _
  entry_read
  pointwise

theorem entry_v8 (r : Fin 4096) : V1 m ρ c main_v8 (ix2 r 0) = m ((c : Thread nD τ).loc main_arg6) (ix2 1 r) := by
  show StableHlo.after hostOps0 (W0 m ρ c) (Proc.devRef .tc main_v8) (ix2 r 0) = _
  entry_read
  pointwise

theorem entry_v11 (r : Fin 4096) : V1 m ρ c main_v11 (ix2 r 0) = m ((c : Thread nD τ).loc main_arg7) (ix2 1 r) := by
  show StableHlo.after hostOps0 (W0 m ρ c) (Proc.devRef .tc main_v11) (ix2 r 0) = _
  entry_read
  pointwise

variable {m c} {x : Inp} (H : Launch m c x)
include H

theorem Launch.entry0 : Entry0 (V1 m ρ) c x where
  hU := (W1_args m ρ c _ (by decide)).trans H.hU
  hI := (W1_args m ρ c _ (by decide)).trans H.hI
  hW1 := (W1_args m ρ c _ (by decide)).trans H.hW1
  hW2 := (W1_args m ρ c _ (by decide)).trans H.hW2
  hW1b := (W1_args m ρ c _ (by decide)).trans H.hW1b
  hW2b := (W1_args m ρ c _ (by decide)).trans H.hW2b
  hW3 := (W1_args m ρ c _ (by decide)).trans H.hW3
  hW4 := (W1_args m ρ c _ (by decide)).trans H.hW4
  hlu r := (entry_v8 m ρ c r).trans (H.hlu r)
  hli r := (entry_v11 m ρ c r).trans (H.hli r)

/-- The two tables as the first pass finds them. -/
theorem Launch.tableU : V2 m ρ c main_v12_0 = fun j : S4096x1024.Idx => Gat.tableU x (j 0) (j 1) :=
  (W2_arr m ρ c 12).trans (H.entry0 ρ).catu

theorem Launch.tableI : V2 m ρ c main_v12_1 = fun j : S4096x512.Idx => Gat.tableI x (j 0) (j 1) :=
  (W2_arr m ρ c 13).trans (H.entry0 ρ).cati

theorem Launch.users2 (e : Fin 131072) : V2 m ρ c main_v2 (ix2 e 0) = BitVec.ofNat 32 (x.us e).val :=
  (congrFun (W2_of m ρ c main_v2 (by decide)) (ix2 e 0)).trans ((entry_v2 m ρ c e).trans (H.hus e))

theorem Launch.items2 (e : Fin 131072) : V2 m ρ c main_v5 (ix2 e 0) = BitVec.ofNat 32 (x.is e).val :=
  (congrFun (W2_of m ρ c main_v5 (by decide)) (ix2 e 0)).trans ((entry_v5 m ρ c e).trans (H.his e))

theorem Launch.entry1 : Entry1 (V2 m ρ) c x where
  hu := H.users2 ρ
  hi := H.items2 ρ
  hpV := (W2_args m ρ c _ (by decide)).trans H.hpV
  hpK := (W2_args m ρ c _ (by decide)).trans H.hpK
  hA r d := by rw [H.tableU ρ]; exact tableU_A x r d
  hUm r d := by rw [H.tableU ρ]; exact tableU_Um x r d
  hLi r d := by rw [H.tableU ρ]; exact tableU_Li x r d
  hLu r d := by rw [H.tableU ρ]; exact tableU_Lu x r d
  hB r d := by rw [H.tableI ρ]; exact tableI_B x r d
  hIm r d := by rw [H.tableI ρ]; exact tableI_Im x r d

theorem Launch.entry2 : Entry2 (V3 m ρ) c x where
  hu e := (congrFun (W3_of m ρ c main_v2 (by decide)) (ix2 e 0)).trans (H.users2 ρ e)
  hi e := (congrFun (W3_of m ρ c main_v5 (by decide)) (ix2 e 0)).trans (H.items2 ρ e)
  hex := (W3_arr m ρ c 8).trans (H.entry1 ρ).exs
  hg1 := (W3_arr m ρ c 9).trans (H.entry1 ρ).g1
  hg2 := (W3_arr m ρ c 10).trans (H.entry1 ρ).g2
  hg3 := (W3_arr m ρ c 11).trans (H.entry1 ρ).g3
  hg4 := (W3_arr m ρ c 12).trans (H.entry1 ρ).g4
  hU0 n := (congrFun (W3_arr m ρ c 6) (ix2 n 0)).trans ((H.entry1 ρ).denU0 n)
  hU1 n := (congrFun (W3_arr m ρ c 6) (ix2 n 1)).trans ((H.entry1 ρ).denU1 n)
  hI0 n := (congrFun (W3_arr m ρ c 7) (ix2 n 0)).trans ((H.entry1 ρ).denI0 n)
  hI1 n := (congrFun (W3_arr m ρ c 7) (ix2 n 1)).trans ((H.entry1 ρ).denI1 n)

/-- The four results at the end of the run. -/
theorem Launch.hLu : W5 m ρ c (Proc.devRef .tc main_v15) = fun j : S4096x256.Idx => x.hLu (j 0) (j 1) := by
  funext j
  obtain ⟨n, d, rfl⟩ : ∃ (n : Fin 4096) (d : Fin 256), j = ix2 n d := ⟨j 0, j 1, eq_ix2 _⟩
  refine Eq.trans ?_ ((congrFun (W4_arr m ρ c 9) (ix2 n ⟨d.val, by omega⟩)).trans ((H.entry2 ρ).hLu n d))
  show StableHlo.after hostOps3 (W4 m ρ c) (Proc.devRef .tc main_v15) (ix2 n d) = _
  entry_read
  pointwise

theorem Launch.hSu : W5 m ρ c (Proc.devRef .tc main_v16) = fun j : S4096x256.Idx => x.hSu (j 0) (j 1) := by
  funext j
  obtain ⟨n, d, rfl⟩ : ∃ (n : Fin 4096) (d : Fin 256), j = ix2 n d := ⟨j 0, j 1, eq_ix2 _⟩
  refine Eq.trans ?_ ((congrFun (W4_arr m ρ c 9) (ix2 n ⟨256 + d.val, by omega⟩)).trans ((H.entry2 ρ).hSu n d))
  show StableHlo.after hostOps3 (W4 m ρ c) (Proc.devRef .tc main_v16) (ix2 n d) = _
  entry_read
  pointwise

theorem Launch.hLi : W5 m ρ c (Proc.devRef .tc main_v17) = fun j : S4096x256.Idx => x.hLi (j 0) (j 1) := by
  funext j
  obtain ⟨n, d, rfl⟩ : ∃ (n : Fin 4096) (d : Fin 256), j = ix2 n d := ⟨j 0, j 1, eq_ix2 _⟩
  refine Eq.trans ?_ ((congrFun (W4_arr m ρ c 10) (ix2 n ⟨d.val, by omega⟩)).trans ((H.entry2 ρ).hLi n d))
  show StableHlo.after hostOps3 (W4 m ρ c) (Proc.devRef .tc main_v17) (ix2 n d) = _
  entry_read
  pointwise

theorem Launch.hSi : W5 m ρ c (Proc.devRef .tc main_v18) = fun j : S4096x256.Idx => x.hSi (j 0) (j 1) := by
  funext j
  obtain ⟨n, d, rfl⟩ : ∃ (n : Fin 4096) (d : Fin 256), j = ix2 n d := ⟨j 0, j 1, eq_ix2 _⟩
  refine Eq.trans ?_ ((congrFun (W4_arr m ρ c 10) (ix2 n ⟨256 + d.val, by omega⟩)).trans ((H.entry2 ρ).hSi n d))
  show StableHlo.after hostOps3 (W4 m ρ c) (Proc.devRef .tc main_v18) (ix2 n d) = _
  entry_read
  pointwise

end Cert.KernelIdeal.Gat
end
-- ==== Proof.RefOps.lean ====
module

public import proofs.«01_k».proof.Proof.Gen.ReferenceIdeal.Run
public import proofs.«01_k».proof.Proof.Spec
public import Idealize.ShloMosaic.Lib.Routing.OpsPair
public import Idealize.ShloMosaic.Lib.Routing.OpsSet
public import Idealize.ShloMosaic.Lib.Pointwise.IndexBridge

/-! The reference's indexing operations at an index: gathers read a row, scatters add over a node's edges. -/

@[expose] public section

set_option maxRecDepth 16384

noncomputable section

namespace Cert.ReferenceIdeal.Gat

open Idealize.ShloMosaic Cert.ReferenceIdeal Cert.ReferenceIdeal.Gen Cert.Gat

/-- A vector of index words laid out as a column. -/
abbrev col (s : IVec S131072 32) : IVec S131072x1 32 := broadcastInDim S131072x1 ![0] bcast_S131072_S131072x1_0 s

/-- The same with a negative index counted from the end. -/
abbrev wrapCol (s : IVec S131072 32) : IVec S131072x1 32 :=
  broadcastInDim S131072x1 ![0] bcast_S131072_S131072x1_0
    (select (cmpi .slt s (broadcastInDim S131072 ![] bcast_S_S131072 (constantI S_ 32 0#32)))
      (addi s (broadcastInDim S131072 ![] bcast_S_S131072 (constantI S_ 32 4096#32))) s)

/-- The same of a vector over the nodes. -/
abbrev wrapNode (s : IVec S4096 32) : IVec S4096x1 32 :=
  broadcastInDim S4096x1 ![0] bcast_S4096_S4096x1_0
    (select (cmpi .slt s (broadcastInDim S4096 ![] bcast_S_S4096 (constantI S_ 32 0#32)))
      (addi s (broadcastInDim S4096 ![] bcast_S_S4096 (constantI S_ 32 4096#32))) s)

theorem word_toNat (b : Fin 4096) : (BitVec.ofNat 32 b.val).toNat = b.val := by
  have := b.isLt
  rw [BitVec.toNat_ofNat]
  exact Nat.mod_eq_of_lt (by omega)

theorem word_toInt (b : Fin 4096) : (BitVec.ofNat 32 b.val).toInt = (b.val : Int) := by
  have := b.isLt
  exact StableHlo.Predicate.toInt_ofNat_small _ (by omega)

/-- A node number is not negative, so it is left as it is. -/
theorem wrap_word (b : Fin 4096) :
    Scalar.select (IntOp.cmpi .slt (BitVec.ofNat 32 b.val) 0#32) (IntOp.addi (BitVec.ofNat 32 b.val) 4096#32) (BitVec.ofNat 32 b.val)
      = BitVec.ofNat 32 b.val :=
  Routing.wrap_of_lt _ _ (by rw [word_toNat]; have := b.isLt; omega)

theorem wrapCol_at (s : IVec S131072 32) (e : Fin 131072) (b : Fin 4096) (h : s (ix1 e) = BitVec.ofNat 32 b.val) :
    wrapCol s (ix2 e 0) = BitVec.ofNat 32 b.val := by
  refine Eq.trans ?_ (wrap_word b)
  rw [← h]
  pointwise

theorem wrapNode_at (s : IVec S4096 32) (r : Fin 4096) (b : Fin 4096) (h : s (ix1 r) = BitVec.ofNat 32 b.val) :
    wrapNode s (ix2 r 0) = BitVec.ofNat 32 b.val := by
  refine Eq.trans ?_ (wrap_word b)
  rw [← h]
  pointwise

theorem col_at (s : IVec S131072 32) (e : Fin 131072) : col s (ix2 e 0) = s (ix1 e) := by
  pointwise

/-- Rows taken by edge. -/
theorem row_at (X : Mat 4096 256) (s : IVec S131072 32) (e : Fin 131072) (d : Fin 256) (b : Fin 4096)
    (h : s (ix1 e) = BitVec.ofNat 32 b.val) :
    Host.gather gather_S4096x256_S131072x1_S131072x256_1_0_n_n_0_1_1256 X (wrapCol s) (ix2 e d) = X (ix2 b d) := by
  have hb := wrapCol_at s e b h
  rw [ix2_eq_valueIdx] at hb ⊢
  rw [ix2_eq_valueIdx]
  exact Routing.gather_row gather_S4096x256_S131072x1_S131072x256_1_0_n_n_0_1_1256 rfl rfl rfl rfl rfl X (wrapCol s) e d b hb (by norm_num)

/-- Rows taken by node. -/
theorem rowNode_at (X : Mat 4096 256) (s : IVec S4096 32) (r : Fin 4096) (d : Fin 256) (b : Fin 4096)
    (h : s (ix1 r) = BitVec.ofNat 32 b.val) :
    Host.gather gather_S4096x256_S4096x1_S4096x256_1_0_n_n_0_1_1256 X (wrapNode s) (ix2 r d) = X (ix2 b d) := by
  have hb := wrapNode_at s r b h
  rw [ix2_eq_valueIdx] at hb ⊢
  rw [ix2_eq_valueIdx]
  exact Routing.gather_row gather_S4096x256_S4096x1_S4096x256_1_0_n_n_0_1_1256 rfl rfl rfl rfl rfl X (wrapNode s) r d b hb (by norm_num)

/-- Entries of a vector taken by edge. -/
theorem take_at (x : S4096.Idx → EReal) (s : IVec S131072 32) (e : Fin 131072) (b : Fin 4096)
    (h : s (ix1 e) = BitVec.ofNat 32 b.val) :
    Host.gather gather_S4096_S131072x1_S131072_n_0_n_n_0_1_1 x (wrapCol s) (ix1 e) = x (ix1 b) := by
  have hb := wrapCol_at s e b h
  rw [ix2_eq_valueIdx] at hb
  rw [ix1_eq_valueIdx, ix1_eq_valueIdx]
  exact Routing.gather_take1 gather_S4096_S131072x1_S131072_n_0_n_n_0_1_1 rfl rfl rfl rfl x (wrapCol s) e b hb (by norm_num)

/-- Where an edge's scalar lands. -/
theorem start1 (k : S131072.Idx) (idx : IVec S131072x1 32) :
    scatter_S4096_S131072x1_S131072_n_0_0_1.start k idx 0 = (idx (ix2 (k 0) 0)).toInt := by
  refine congrArg (fun i => (idx i).toInt) (funext fun a => ?_)
  match a with
  | ⟨0, _⟩ => rfl
  | ⟨1, _⟩ => rfl

theorem window1 (k : S131072.Idx) : scatter_S4096_S131072x1_S131072_n_0_0_1.window k 0 = 0 := rfl

theorem lands1 (k : S131072.Idx) (idx : IVec S131072x1 32) (n : Fin 4096) :
    scatter_S4096_S131072x1_S131072_n_0_0_1.resultIdx? k idx = some (ix1 n) ↔ (idx (ix2 (k 0) 0)).toInt = (n.val : Int) := by
  rw [ix1_eq_valueIdx, Routing.resultIdx?_ix1, start1, window1]
  simp

/-- Where an entry of an edge's row lands. -/
theorem start2_0 (k : S131072x256.Idx) (idx : IVec S131072x1 32) :
    scatter_S4096x256_S131072x1_S131072x256_1_0_0_1.start k idx 0 = (idx (ix2 (k 0) 0)).toInt := by
  refine congrArg (fun i => (idx i).toInt) (funext fun a => ?_)
  match a with
  | ⟨0, _⟩ => rfl
  | ⟨1, _⟩ => rfl

theorem start2_1 (k : S131072x256.Idx) (idx : IVec S131072x1 32) :
    scatter_S4096x256_S131072x1_S131072x256_1_0_0_1.start k idx 1 = 0 := rfl

theorem window2_0 (k : S131072x256.Idx) : scatter_S4096x256_S131072x1_S131072x256_1_0_0_1.window k 0 = 0 := rfl

theorem window2_1 (k : S131072x256.Idx) : scatter_S4096x256_S131072x1_S131072x256_1_0_0_1.window k 1 = (k 1).val := rfl

theorem lands2 (k : S131072x256.Idx) (idx : IVec S131072x1 32) (n : Fin 4096) (d : Fin 256) :
    scatter_S4096x256_S131072x1_S131072x256_1_0_0_1.resultIdx? k idx = some (ix2 n d)
      ↔ (idx (ix2 (k 0) 0)).toInt = (n.val : Int) ∧ k 1 = d := by
  rw [ix2_eq_valueIdx, Routing.resultIdx?_ix2, start2_0, start2_1, window2_0, window2_1]
  refine and_congr (by simp) ⟨fun h => Fin.ext ?_, fun h => by rw [h]; simp⟩
  have h' : ((k 1).val : Int) = (d.val : Int) := by simpa using h
  exact_mod_cast h'

/-- A sum per node of one scalar per edge. -/
theorem seg_at (s : IVec S131072 32) (seg : Fin 131072 → Fin 4096) (hs : ∀ e, s (ix1 e) = BitVec.ofNat 32 (seg e).val)
    (w : S131072.Idx → EReal) (n : Fin 4096) :
    Host.scatterAdd (F := Ideal) scatter_S4096_S131072x1_S131072_n_0_0_1
        (broadcastInDim S4096 ![] bcast_S_S4096 (constant (F := Ideal) S_ .f32 0x00000000#32)) (col s) w (ix1 n)
      = segSum seg (fun e => w (ix1 e)) n := by
  have hz : broadcastInDim S4096 ![] bcast_S_S4096 (constant (F := Ideal) S_ .f32 0x00000000#32) (ix1 n) = (0 : EReal) := by
    pointwise
  show broadcastInDim S4096 ![] bcast_S_S4096 (constant (F := Ideal) S_ .f32 0x00000000#32) (ix1 n)
    + ∑ k ∈ Finset.univ.filter (fun k => scatter_S4096_S131072x1_S131072_n_0_0_1.resultIdx? k (col s) = some (ix1 n)), w k = _
  rw [hz, zero_add, Finset.sum_filter]
  unfold segSum
  refine Fintype.sum_equiv ⟨fun k => k 0, fun e => ix1 e, fun k => (eq_ix1 k).symm, fun e => rfl⟩ _ _ fun k => ?_
  obtain ⟨e, rfl⟩ : ∃ e : Fin 131072, k = ix1 e := ⟨k 0, eq_ix1 k⟩
  have hw : (col s (ix2 e 0)).toInt = ((seg e).val : Int) := by rw [col_at, hs, word_toInt]
  refine if_congr ((lands1 _ _ _).trans ?_) rfl rfl
  show (col s (ix2 e 0)).toInt = (n.val : Int) ↔ seg e = n
  rw [hw]
  exact ⟨fun h => Fin.ext (by exact_mod_cast h), fun h => by rw [h]⟩

/-- A sum per node of one row per edge. -/
theorem segRow_at (s : IVec S131072 32) (seg : Fin 131072 → Fin 4096) (hs : ∀ e, s (ix1 e) = BitVec.ofNat 32 (seg e).val)
    (w : S131072x256.Idx → EReal) (n : Fin 4096) (d : Fin 256) :
    Host.scatterAdd (F := Ideal) scatter_S4096x256_S131072x1_S131072x256_1_0_0_1
        (broadcastInDim S4096x256 ![] bcast_S_S4096x256 (constant (F := Ideal) S_ .f32 0x00000000#32)) (col s) w (ix2 n d)
      = segSum seg (fun e => w (ix2 e d)) n := by
  have hz : broadcastInDim S4096x256 ![] bcast_S_S4096x256 (constant (F := Ideal) S_ .f32 0x00000000#32) (ix2 n d) = (0 : EReal) := by
    pointwise
  show broadcastInDim S4096x256 ![] bcast_S_S4096x256 (constant (F := Ideal) S_ .f32 0x00000000#32) (ix2 n d)
    + ∑ k ∈ Finset.univ.filter (fun k => scatter_S4096x256_S131072x1_S131072x256_1_0_0_1.resultIdx? k (col s) = some (ix2 n d)), w k = _
  rw [hz, zero_add]
  unfold segSum
  rw [← Finset.sum_filter]
  have hm (k : S131072x256.Idx) : scatter_S4096x256_S131072x1_S131072x256_1_0_0_1.resultIdx? k (col s) = some (ix2 n d)
      ↔ seg (k 0) = n ∧ k 1 = d := by
    have hw : (col s (ix2 (k 0) 0)).toInt = ((seg (k 0)).val : Int) :=
      (congrArg BitVec.toInt ((col_at s (k 0)).trans (hs (k 0)))).trans (word_toInt _)
    rw [lands2, hw]
    exact and_congr ⟨fun h => Fin.ext (by exact_mod_cast h), fun h => by rw [h]⟩ Iff.rfl
  refine Finset.sum_nbij' (fun k => k 0) (fun e => ix2 e d) (fun k hk => ?_) (fun e he => ?_) (fun k hk => ?_) (fun e _ => rfl)
    fun k hk => ?_
  · exact Finset.mem_filter.2 ⟨Finset.mem_univ _, ((hm k).1 (Finset.mem_filter.1 hk).2).1⟩
  · exact Finset.mem_filter.2 ⟨Finset.mem_univ _, (hm _).2 ⟨(Finset.mem_filter.1 he).2, rfl⟩⟩
  · rw [← ((hm k).1 (Finset.mem_filter.1 hk).2).2]
    exact (eq_ix2 k).symm
  · rw [← ((hm k).1 (Finset.mem_filter.1 hk).2).2]
    exact congrArg w (eq_ix2 k)

/-- A product with a transposed weight. -/
theorem dot_at (X : Mat 4096 256) (W : Mat 256 256) (r : Fin 4096) (d : Fin 256) :
    Host.dotGeneral (F := Ideal) (φ₁ := .f32) (φ₂ := .f32) dot_S4096x256_S256x256_S4096x256_1_0_0_1_n_n none X
      (transpose S256x256 [1, 0] W transposes_S256x256_S256x256_1_0) (ix2 r d) = att X W r d := by
  unfold att
  pointwise

/-- The sum of an edge's row. -/
theorem rowSum_at (w : S131072x256.Idx → EReal) (e : Fin 131072) :
    Host.reduceAdd (F := Ideal) (φ := .f32) w (constant (F := Ideal) S_ .f32 0x00000000#32) reducesTo_S131072x256_S131072_d1 h_S_ (ix1 e)
      = ∑ d : Fin 256, w (ix2 e d) := by
  pointwise

end Cert.ReferenceIdeal.Gat
end
-- ==== Proof.Ref.lean ====
module

public import proofs.«01_k».proof.Proof.RefOps

/-! The reference's results at an index. -/

@[expose] public section

set_option maxRecDepth 16384

noncomputable section

namespace Cert.ReferenceIdeal.Gat

open Idealize.ShloMosaic Cert.ReferenceIdeal Cert.ReferenceIdeal.Gen Cert.ReferenceIdeal.Value Cert.Gat

/-- Weighted rows added per node: the shape all four results have. -/
theorem out_at (s : IVec S131072 32) (seg : Fin 131072 → Fin 4096) (hs : ∀ e, s (ix1 e) = BitVec.ofNat 32 (seg e).val)
    (ex : FVec Ideal S131072 .f32) (g : FVec Ideal S131072x256 .f32) (n : Fin 4096) (d : Fin 256) :
    Host.scatterAdd (F := Ideal) scatter_S4096x256_S131072x1_S131072x256_1_0_0_1
        (broadcastInDim S4096x256 ![] bcast_S_S4096x256 (constant (F := Ideal) S_ .f32 0x00000000#32)) (col s)
        (mulf (broadcastInDim S131072x256 ![0, 1] bcast_S131072x1_S131072x256_0_1
          (broadcastInDim S131072x1 ![0] bcast_S131072_S131072x1_0
            (Host.divf ex (addf (Host.gather gather_S4096_S131072x1_S131072_n_0_n_n_0_1_1
              (Host.scatterAdd (F := Ideal) scatter_S4096_S131072x1_S131072_n_0_0_1
                (broadcastInDim S4096 ![] bcast_S_S4096 (constant (F := Ideal) S_ .f32 0x00000000#32)) (col s) ex) (wrapCol s))
              (broadcastInDim S131072 ![] bcast_S_S131072 (constant (F := Ideal) S_ .f32 0x24E69595#32)))))) g) (ix2 n d)
      = segSum seg (fun e => weight seg (fun e => ex (ix1 e)) e * g (ix2 e d)) n := by
  rw [segRow_at s seg hs]
  refine congrArg (fun w => segSum seg w n) (funext fun e => ?_)
  have hmul (q : FVec Ideal S131072 .f32) : mulf (broadcastInDim S131072x256 ![0, 1] bcast_S131072x1_S131072x256_0_1
      (broadcastInDim S131072x1 ![0] bcast_S131072_S131072x1_0 q)) g (ix2 e d) = (q (ix1 e) * g (ix2 e d) : EReal) := by
    pointwise
  have hdiv (q : FVec Ideal S131072 .f32) : Host.divf ex (addf q
      (broadcastInDim S131072 ![] bcast_S_S131072 (constant (F := Ideal) S_ .f32 0x24E69595#32))) (ix1 e)
        = Ideal.div (ex (ix1 e)) (q (ix1 e) + guard) := by
    pointwise
  rw [hmul, hdiv, take_at _ s e (seg e) (hs e), seg_at s seg hs]
  rfl

/-- The exponential of a scaled score. -/
theorem exp_at (w : FVec Ideal S131072 .f32) (e : Fin 131072) :
    Host.exp (Host.divf w (broadcastInDim S131072 ![] bcast_S_S131072 (constant (F := Ideal) S_ .f32 0x41800000#32))) (ix1 e)
      = Ideal.exp (Ideal.div (w (ix1 e)) scale) := by
  pointwise

/-- The sum of a product of two rows of an edge. -/
theorem dotRow_at (f g : FVec Ideal S131072x256 .f32) (e : Fin 131072) :
    Host.reduceAdd (F := Ideal) (φ := .f32) (mulf f g) (constant (F := Ideal) S_ .f32 0x00000000#32)
        reducesTo_S131072x256_S131072_d1 h_S_ (ix1 e)
      = dotRow (fun d => f (ix2 e d)) fun d => g (ix2 e d) :=
  rowSum_at (mulf f g) e

/-- The arguments hold the inputs `x`. -/
structure Holds (V : Valuation τ sig (Elt Ideal)) (x : Inp) : Prop where
  hU : V (Proc.devRef .tc main_arg0) = x.U
  hI : V (Proc.devRef .tc main_arg1) = x.I
  hpV : V (Proc.devRef .tc main_arg3) = x.pV
  hpK : V (Proc.devRef .tc main_arg4) = x.pK
  hW1 : V (Proc.devRef .tc main_arg8) = x.W1
  hW2 : V (Proc.devRef .tc main_arg9) = x.W2
  hW1b : V (Proc.devRef .tc main_arg10) = x.W1b
  hW2b : V (Proc.devRef .tc main_arg11) = x.W2b
  hW3 : V (Proc.devRef .tc main_arg12) = x.W3
  hW4 : V (Proc.devRef .tc main_arg13) = x.W4
  hus : ∀ e : Fin 131072, V (Proc.devRef .tc main_arg2) (ix2 0 e) = BitVec.ofNat 32 (x.us e).val
  his : ∀ e : Fin 131072, V (Proc.devRef .tc main_arg2) (ix2 1 e) = BitVec.ofNat 32 (x.is e).val
  hlu : ∀ r : Fin 4096, V (Proc.devRef .tc main_arg6) (ix2 1 r) = BitVec.ofNat 32 (x.lu r).val
  hli : ∀ r : Fin 4096, V (Proc.devRef .tc main_arg7) (ix2 1 r) = BitVec.ofNat 32 (x.li r).val

variable {V : Valuation τ sig (Elt Ideal)} {x : Inp} (H : Holds V x)
include H

/-- The index vectors. -/
theorem Holds.user (e : Fin 131072) : res_main_v1 V (ix1 e) = BitVec.ofNat 32 (x.us e).val := by
  rw [← H.hus e]
  unfold res_main_v1
  pointwise

theorem Holds.item (e : Fin 131072) : res_main_v3 V (ix1 e) = BitVec.ofNat 32 (x.is e).val := by
  rw [← H.his e]
  unfold res_main_v3
  pointwise

theorem Holds.lastItem (r : Fin 4096) : res_main_v109 V (ix1 r) = BitVec.ofNat 32 (x.lu r).val := by
  rw [← H.hlu r]
  unfold res_main_v109
  pointwise

theorem Holds.lastUser (r : Fin 4096) : res_main_v120 V (ix1 r) = BitVec.ofNat 32 (x.li r).val := by
  rw [← H.hli r]
  unfold res_main_v120
  pointwise

/-- The two tables of scores. -/
theorem Holds.tabA (r : Fin 4096) (d : Fin 256) : res_main_v5 V (ix2 r d) = att x.U x.W2 r d := by
  unfold res_main_v5
  rw [H.hU, H.hW2]
  exact dot_at x.U x.W2 r d

theorem Holds.tabB (r : Fin 4096) (d : Fin 256) : res_main_v7 V (ix2 r d) = att x.I x.W1 r d := by
  unfold res_main_v7
  rw [H.hI, H.hW1]
  exact dot_at x.I x.W1 r d

/-- An edge's rows of them. -/
theorem Holds.edgeA (e : Fin 131072) (d : Fin 256) :
    Host.gather gather_S4096x256_S131072x1_S131072x256_1_0_n_n_0_1_1256 (res_main_v5 V) (wrapCol (res_main_v1 V)) (ix2 e d) = x.rowA e d :=
  (row_at (res_main_v5 V) _ e d (x.us e) (H.user e)).trans (H.tabA _ d)

theorem Holds.edgeB (e : Fin 131072) (d : Fin 256) :
    Host.gather gather_S4096x256_S131072x1_S131072x256_1_0_n_n_0_1_1256 (res_main_v7 V) (wrapCol (res_main_v3 V)) (ix2 e d) = x.rowB e d :=
  (row_at (res_main_v7 V) _ e d (x.is e) (H.item e)).trans (H.tabB _ d)

/-- The long-term scores. -/
theorem Holds.score (e : Fin 131072) : res_main_v23 V (ix1 e) = dotRow (x.rowA e) (x.rowB e) := by
  unfold res_main_v23
  refine (dotRow_at _ _ e).trans ?_
  exact congrArg₂ dotRow (funext fun d => H.edgeA e d) (funext fun d => H.edgeB e d)

theorem Holds.ex1 (e : Fin 131072) : res_main_v36 V (ix1 e) = x.ex1 e := by
  unfold res_main_v36
  refine (exp_at _ e).trans (congrArg (fun z => Ideal.exp (Ideal.div z scale)) ?_)
  refine congrArg₂ (fun a b : EReal => a + b) (H.score e) ((dotRow_at _ _ e).trans ?_)
  exact congrArg₂ dotRow (funext fun d => H.edgeA e d) (funext fun d => congrFun H.hpV (ix2 e d))

theorem Holds.ex2 (e : Fin 131072) : res_main_v62 V (ix1 e) = x.ex2 e := by
  unfold res_main_v62
  refine (exp_at _ e).trans (congrArg (fun z => Ideal.exp (Ideal.div z scale)) ?_)
  refine congrArg₂ (fun a b : EReal => a + b) (H.score e) ((dotRow_at _ _ e).trans ?_)
  exact congrArg₂ dotRow (funext fun d => H.edgeB e d) (funext fun d => congrFun H.hpK (ix2 e d))

/-- The short-term scores. -/
theorem Holds.ex3 (e : Fin 131072) : res_main_v148 V (ix1 e) = x.ex3 e := by
  unfold res_main_v148
  refine (exp_at _ e).trans (congrArg (fun z => Ideal.exp (Ideal.div z scale)) ((dotRow_at _ _ e).trans ?_))
  refine congrArg₂ dotRow (funext fun d => ?_) (funext fun d => H.edgeB e d)
  refine (row_at _ _ e d (x.us e) (H.user e)).trans ?_
  rw [H.hW3, H.hI]
  refine (dot_at _ x.W3 (x.us e) d).trans ?_
  show (∑ k : Fin 256, _ * x.W3 (ix2 d k)) = ∑ k : Fin 256, x.I (ix2 (x.lu (x.us e)) k) * x.W3 (ix2 d k)
  exact Finset.sum_congr rfl fun k _ => congrArg (· * x.W3 (ix2 d k)) (rowNode_at x.I _ (x.us e) k _ (H.lastItem _))

theorem Holds.ex4 (e : Fin 131072) : res_main_v180 V (ix1 e) = x.ex4 e := by
  unfold res_main_v180
  refine (exp_at _ e).trans (congrArg (fun z => Ideal.exp (Ideal.div z scale)) ((dotRow_at _ _ e).trans ?_))
  refine congrArg₂ dotRow (funext fun d => ?_) (funext fun d => H.edgeB e d)
  refine (row_at _ _ e d (x.us e) (H.user e)).trans ?_
  rw [H.hW4, H.hU]
  refine (dot_at _ x.W4 (x.us e) d).trans ?_
  show (∑ k : Fin 256, _ * x.W4 (ix2 d k)) = ∑ k : Fin 256, x.U (ix2 (x.li (x.us e)) k) * x.W4 (ix2 d k)
  exact Finset.sum_congr rfl fun k _ => congrArg (· * x.W4 (ix2 d k)) (rowNode_at x.U _ (x.us e) k _ (H.lastUser _))

end Cert.ReferenceIdeal.Gat
end
-- ==== Proof.RefRun.lean ====
module

public import proofs.«01_k».proof.Proof.Ref

/-! The reference's run, its results at their values. -/

@[expose] public section

set_option maxRecDepth 16384

noncomputable section

namespace Cert.ReferenceIdeal.Gat

open Idealize.ShloMosaic Idealize.ShloMosaic.TcCoe Idealize.ShloMosaic.StableHlo Idealize.SL.Sem Cert.ReferenceIdeal Cert.ReferenceIdeal.Gen Cert.ReferenceIdeal.Value Cert.Gat

/-- An edge's row of a product, an argument's row added. -/
theorem addRow_at (X : Mat 4096 256) (W : Mat 256 256) (P : Mat 131072 256) (s : IVec S131072 32) (e : Fin 131072) (d : Fin 256)
    (b : Fin 4096) (h : s (ix1 e) = BitVec.ofNat 32 b.val) :
    addf (F := Ideal) (φ := .f32) (Host.gather gather_S4096x256_S131072x1_S131072x256_1_0_n_n_0_1_1256
        (Host.dotGeneral (F := Ideal) (φ₁ := .f32) (φ₂ := .f32) dot_S4096x256_S256x256_S4096x256_1_0_0_1_n_n none X
          (transpose S256x256 [1, 0] W transposes_S256x256_S256x256_1_0)) (wrapCol s)) P (ix2 e d)
      = (att X W b d + P (ix2 e d) : EReal) :=
  congrArg (fun a : EReal => a + P (ix2 e d)) ((row_at _ s e d b h).trans (dot_at X W b d))

/-- A row with the literal one added. -/
theorem addUnit_at (f : FVec Ideal S131072x256 .f32) (e : Fin 131072) (d : Fin 256) :
    addf f (broadcastInDim S131072x256 ![] bcast_S_S131072x256 (constant (F := Ideal) S_ .f32 0x3F800000#32)) (ix2 e d)
      = (f (ix2 e d) + unit : EReal) := by
  pointwise

variable (m : (ℓ : Loc nD τ sig) → Buf (Elt Ideal) ℓ) (ρ : Dev nD → PrngReg) (x : Dev nD → Inp)
  (H : ∀ c, Holds (launchContents m c) (x c))
include H

/-- The reference's run ends with each result at its value and every argument as launched. -/
theorem run : θ_run defs (onTc (τ := τ) (main (F := Ideal))) ⟨m, fun _ => 0, ρ⟩ fun r => ∀ c : Dev nD,
      r.2.mem ((c.tc : Thread nD τ).loc main_v93) = (fun j : S4096x256.Idx => (x c).hLu (j 0) (j 1))
      ∧ r.2.mem ((c.tc : Thread nD τ).loc main_v208) = (fun j : S4096x256.Idx => (x c).hSu (j 0) (j 1))
      ∧ r.2.mem ((c.tc : Thread nD τ).loc main_v107) = (fun j : S4096x256.Idx => (x c).hLi (j 0) (j 1))
      ∧ r.2.mem ((c.tc : Thread nD τ).loc main_v223) = (fun j : S4096x256.Idx => (x c).hSi (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (Value.run (F := Ideal) m ρ)
  obtain ⟨h1, h2, h3, h4, hargs⟩ := h c
  refine ⟨h1.trans ?_, h2.trans ?_, h3.trans ?_, h4.trans ?_, hargs⟩
  all_goals
    funext j
    obtain ⟨n, d, rfl⟩ : ∃ (n : Fin 4096) (d : Fin 256), j = ix2 n d := ⟨j 0, j 1, eq_ix2 _⟩
  · refine (out_at _ (x c).us (H c).user _ _ n d).trans ?_
    rw [show (fun e => res_main_v36 (launchContents m c) (ix1 e)) = (x c).ex1 from funext (H c).ex1]
    refine congrArg (fun w => segSum (x c).us w n) (funext fun e => congrArg (fun a => weight (x c).us (x c).ex1 e * a) ?_)
    rw [(H c).hI, (H c).hW1b, (H c).hpK]
    exact addRow_at (x c).I (x c).W1b (x c).pK _ e d ((x c).is e) ((H c).item e)
  · refine (out_at _ (x c).us (H c).user _ _ n d).trans ?_
    rw [show (fun e => res_main_v148 (launchContents m c) (ix1 e)) = (x c).ex3 from funext (H c).ex3]
    refine congrArg (fun w => segSum (x c).us w n) (funext fun e => congrArg (fun a => weight (x c).us (x c).ex3 e * a) ?_)
    exact (addUnit_at _ e d).trans (congrArg (fun a : EReal => a + unit) ((H c).edgeB e d))
  · refine (out_at _ (x c).is (H c).item _ _ n d).trans ?_
    rw [show (fun e => res_main_v62 (launchContents m c) (ix1 e)) = (x c).ex2 from funext (H c).ex2]
    refine congrArg (fun w => segSum (x c).is w n) (funext fun e => congrArg (fun a => weight (x c).is (x c).ex2 e * a) ?_)
    rw [(H c).hU, (H c).hW2b, (H c).hpV]
    exact addRow_at (x c).U (x c).W2b (x c).pV _ e d ((x c).us e) ((H c).user e)
  · refine (out_at _ (x c).is (H c).item _ _ n d).trans ?_
    rw [show (fun e => res_main_v180 (launchContents m c) (ix1 e)) = (x c).ex4 from funext (H c).ex4]
    refine congrArg (fun w => segSum (x c).is w n) (funext fun e => congrArg (fun a => weight (x c).is (x c).ex4 e * a) ?_)
    exact (addUnit_at _ e d).trans (congrArg (fun a : EReal => a + unit) ((H c).edgeA e d))

end Cert.ReferenceIdeal.Gat
end
-- ==== Proof.Pre.lean ====
module

public import proofs.«01_k».proof.Pre_indices_in_range
public import Idealize.ShloMosaic.Lib.ReduceAll
public import Idealize.ShloMosaic.Lib.Pointwise

/-! The precondition read back: every index word is a node number. -/

@[expose] public section

set_option maxRecDepth 16384

noncomputable section

namespace Cert.Pre_indices_in_range.Gat

open Idealize.ShloMosaic Cert.Pre_indices_in_range

/-- The shape relations the predicate's operations take. -/
instance facts : Facts where
  bcast_S_S2x131072 := by decide
  reducesTo_S2x131072_S_d0_1 := by decide
  h_S_ := by decide
  slices_S2x4096_S1x4096_1_0 := by decide
  shapeCasts_S1x4096_S4096 := by decide
  bcast_S_S4096 := by decide
  reducesTo_S4096_S_d0 := by decide

/-- Two one-bit words are both one when their conjunction is. -/
theorem both_one (p q : BitVec 1) (h : IntOp.andi p q = 1#1) : p = 1#1 ∧ q = 1#1 := by
  revert p q
  decide

/-- A word between 0 and 4095, read signed, is a node number's word. -/
theorem word_of_range (w : BitVec 32) (h : IntOp.andi (IntOp.cmpi .sge w 0#32) (IntOp.cmpi .slt w 4096#32) = 1#1) :
    ∃ n : Fin 4096, w = BitVec.ofNat 32 n.val := by
  obtain ⟨h0, h1⟩ := both_one _ _ h
  have lower : (0#32).sle w = true := by
    cases e : (0#32).sle w
    · simp [IntOp.cmpi, e] at h0
    · rfl
  have upper : w.slt 4096#32 = true := by
    cases e : w.slt 4096#32
    · simp [IntOp.cmpi, e] at h1
    · rfl
  rw [BitVec.sle_eq_decide, decide_eq_true_eq] at lower
  rw [BitVec.slt_eq_decide, decide_eq_true_eq] at upper
  simp only [BitVec.toInt_eq_toNat_cond, BitVec.toNat_ofNat, Nat.reducePow, Nat.reduceMod] at lower upper
  have hw : w.toNat < 4096 := by omega
  exact ⟨⟨w.toNat, hw⟩, by rw [BitVec.ofNat_toNat, BitVec.setWidth_eq]⟩

instance : Subsingleton S_.Idx := ⟨fun a b => funext fun i => i.elim0⟩

variable {a0 a1 : FVec Ideal S4096x256 .f32} {a2 : IVec S2x131072 32} {a3 a4 : FVec Ideal S131072x256 .f32} {a5 : IVec S1 32}
  {a6 a7 : IVec S2x4096 32} {a8 a9 a10 a11 a12 a13 : FVec Ideal S256x256 .f32}

/-- What the precondition says of the three index arrays. -/
theorem words (h : fn (F := Ideal) a0 a1 a2 a3 a4 a5 a6 a7 a8 a9 a10 a11 a12 a13 = fun _ => 1#1) :
    (∀ (i : Fin 2) (e : Fin 131072), ∃ n : Fin 4096, a2 (ix2 i e) = BitVec.ofNat 32 n.val)
      ∧ (∀ r : Fin 4096, ∃ n : Fin 4096, a6 (ix2 1 r) = BitVec.ofNat 32 n.val)
      ∧ ∀ r : Fin 4096, ∃ n : Fin 4096, a7 (ix2 1 r) = BitVec.ofNat 32 n.val := by
  have hh := congrFun h (fun i => i.elim0)
  unfold fn fn_part1 at hh
  obtain ⟨h26, h7⟩ := both_one _ _ hh
  obtain ⟨h2, h6⟩ := both_one _ _ h26
  refine ⟨fun i e => ?_, fun r => ?_, fun r => ?_⟩
  · refine word_of_range _ (Eq.trans ?_ (Host.reduce_andi_all _ _ _ _ _ h2 (ix2 i e)))
    pointwise
  · refine word_of_range _ (Eq.trans ?_ (Host.reduce_andi_all _ _ _ _ _ h6 (ix1 r)))
    pointwise
  · refine word_of_range _ (Eq.trans ?_ (Host.reduce_andi_all _ _ _ _ _ h7 (ix1 r)))
    pointwise

end Cert.Pre_indices_in_range.Gat
end
-- ==== Proof.Equation.lean ====
module

public import proofs.«01_k».proof.Defs
public import proofs.«01_k».proof.Proof.KernelRun
public import proofs.«01_k».proof.Proof.Chain
public import proofs.«01_k».proof.Proof.RefRun
public import proofs.«01_k».proof.Proof.Pre

/-! The equation: both programs end with the same four results. -/

@[expose] public section

set_option maxRecDepth 16384

noncomputable section

namespace Cert.Proof

open Idealize.ShloMosaic Idealize.ShloMosaic.StableHlo Idealize.SL.Sem Cert.Gat

/-- The index arrays hold node numbers, so the launch memory holds some inputs. -/
theorem inputs (m : (ℓ : Loc Cert.KernelIdeal.nD Cert.KernelIdeal.τ Cert.KernelIdeal.sig) → Buf (Elt Ideal) ℓ)
    (h : Cert.Pre_KernelIdeal_indices_in_range m) (c : Dev Cert.KernelIdeal.nD) : ∃ x : Inp, Cert.KernelIdeal.Gat.Launch m c x := by
  obtain ⟨h2, h6, h7⟩ := Cert.Pre_indices_in_range.Gat.words (h c)
  choose w hw using h2
  choose lu hlu using h6
  choose li hli using h7
  exact ⟨⟨_, _, _, _, _, _, _, _, _, _, w 0, w 1, lu, li⟩, rfl, rfl, rfl, rfl, rfl, rfl, rfl, rfl, rfl, rfl, hw 0, hw 1, hlu, hli⟩

/-- From memories agreeing on the arguments, the index words in range, the two runs end with the same four results. -/
theorem equation : Cert.algebraic_KernelIdeal_ReferenceIdeal_pre_indices_in_range := by
  intro m ρ m' ρ' hpre hagree
  choose x hx using inputs m hpre
  have hy (c : Dev Cert.ReferenceIdeal.nD) : Cert.ReferenceIdeal.Gat.Holds (launchContents m' c) (x c) := by
    obtain ⟨a0, a1, a2, a3, a4, a5, a6, a7, a8, a9, a10, a11, a12, a13⟩ := hagree c
    exact ⟨a0.trans (hx c).hU, a1.trans (hx c).hI, a3.trans (hx c).hpV, a4.trans (hx c).hpK, a8.trans (hx c).hW1, a9.trans (hx c).hW2,
      a10.trans (hx c).hW1b, a11.trans (hx c).hW2b, a12.trans (hx c).hW3, a13.trans (hx c).hW4,
      fun e => (congrFun a2 _).trans ((hx c).hus e), fun e => (congrFun a2 _).trans ((hx c).his e),
      fun r => (congrFun a6 _).trans ((hx c).hlu r), fun r => (congrFun a7 _).trans ((hx c).hli r)⟩
  refine ⟨fun c j => (x c).hLu (j 0) (j 1), fun c j => (x c).hSu (j 0) (j 1), fun c j => (x c).hLi (j 0) (j 1),
    fun c j => (x c).hSi (j 0) (j 1), ?_, Cert.ReferenceIdeal.Gat.run m' ρ' x hy⟩
  refine (θ_run Cert.KernelIdeal.defs _ _).mono (fun r h c => ?_) (Cert.KernelIdeal.Gat.run (F := Ideal) m ρ)
  obtain ⟨h1, h2, h3, h4, hargs⟩ := h c
  exact ⟨h1.trans ((hx c).hLu ρ), h2.trans ((hx c).hSu ρ), h3.trans ((hx c).hLi ρ), h4.trans ((hx c).hSi ρ), hargs⟩

/-- The reference ends with its arguments as launched and, having no semaphore, every counter at zero. -/
theorem refFrame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation

@[expose] public section

noncomputable section

namespace Cert.Proof

/-- The three programs end with their arguments as launched and every counter at zero, the idealized kernel is the
    kernel, and the idealized kernel's four results are the reference's. -/
theorem claim : Cert.Claim :=
  ⟨Cert.Kernel.Gen.facts, Cert.KernelIdeal.Gen.facts, Cert.ReferenceIdeal.Gen.facts, Cert.Pre_indices_in_range.Gat.facts,
    fun m ρ _ => Cert.Kernel.Gen.frame m ρ, fun m ρ _ => Cert.KernelIdeal.Gen.frame m ρ, fun m ρ _ => Cert.KernelIdeal.Gen.frame m ρ,
    refFrame, fun m ρ _ => refFrame m ρ trivial, trivial, equation⟩

end Cert.Proof

end
